-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S1024x1024 : Shape := ⟨2, ![1024, 1024]⟩
abbrev S6x256x512 : Shape := ⟨3, ![6, 256, 512]⟩
abbrev S3x256x512 : Shape := ⟨3, ![3, 256, 512]⟩
abbrev S4 : Shape := ⟨1, ![4]⟩
abbrev S_ : Shape := ⟨0, ![]⟩
abbrev S256x256 : Shape := ⟨2, ![256, 256]⟩
abbrev S256x512 : Shape := ⟨2, ![256, 512]⟩
abbrev S1x256x512 : Shape := ⟨3, ![1, 256, 512]⟩
abbrev S1 : Shape := ⟨1, ![1]⟩
abbrev S1x256x256 : Shape := ⟨3, ![1, 256, 256]⟩

abbrev nBuf : Space → Nat
  | .hbm => 3
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S256x1024, .f32⟩
  | .local _ .vmem, ⟨0, _⟩ => ⟨S1024x256, .f32⟩
  | .local _ .vmem, ⟨1, _⟩ => ⟨S256x1024, .f32⟩
  | .local _ .vmem, ⟨2, _⟩ => ⟨S256x1024, .f32⟩
  | .local _ .vmem, ⟨3, _⟩ => ⟨S1024x1024, .f32⟩
  | .local _ .vmem, ⟨4, _⟩ => ⟨S6x256x512, .bf16⟩
  | .local _ .vmem, ⟨5, _⟩ => ⟨S3x256x512, .bf16⟩
  | .local _ .vmem, ⟨6, _⟩ => ⟨S3x256x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_3 : BitVec 32 := 1#32
  let v8 : BitVec 32 := Scalar.muli v3 c1_i32_3
  let v9 : BitVec 32 := Scalar.addi c0_i32 v8
  v9.toNat
def k0_dev2 (d0 : Dev nD) : Nat :=
  let c0_i32_6 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_5 : BitVec 32 := 1#32
  let v10 : BitVec 32 := Scalar.muli v4 c1_i32_5
  let v11 : BitVec 32 := Scalar.addi c0_i32_6 v10
  v11.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_1 : BitVec 32 := 4#32
  let v6 : BitVec 32 := Scalar.remsi v5 c4_i32_1
  let c256_i32 : BitVec 32 := 256#32
  let v12 : BitVec 32 := Scalar.muli v6 c256_i32
  let v13 : Index := Scalar.indexCast v12
  let c0 : Index := 0#32
  ![v13.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_1 : BitVec 32 := 4#32
  let v6 : BitVec 32 := Scalar.remsi v5 c4_i32_1
  let c256_i32_8 : BitVec 32 := 256#32
  let v19 : BitVec 32 := Scalar.muli v6 c256_i32_8
  let v20 : Index := Scalar.indexCast v19
  let c512_9 : Index := 512#32
  ![v20.toNat, 512]
def k0_dev3 (d0 : Dev nD) : Nat :=
  let c0_i32_21 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_20 : BitVec 32 := 1#32
  let v31 : BitVec 32 := Scalar.muli v4 c1_i32_20
  let v32 : BitVec 32 := Scalar.addi c0_i32_21 v31
  v32.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_1 : BitVec 32 := 4#32
  let v6 : BitVec 32 := Scalar.remsi v5 c4_i32_1
  let c256_i32_31 : BitVec 32 := 256#32
  let v48 : BitVec 32 := Scalar.muli v6 c256_i32_31
  let v49 : Index := Scalar.indexCast v48
  let c0_32 : Index := 0#32
  ![v49.toNat, 0]
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_41 : BitVec 32 := 1#32
  let v60 : BitVec 32 := Scalar.muli v3 c1_i32_41
  let v61 : BitVec 32 := Scalar.addi c0_i32_42 v60
  v61.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c256_i32_47 : BitVec 32 := 256#32
  let v70 : BitVec 32 := Scalar.muli v3 c256_i32_47
  let v71 : Index := Scalar.indexCast v70
  let c0_48 : Index := 0#32
  ![v71.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c256_i32_52 : BitVec 32 := 256#32
  let v77 : BitVec 32 := Scalar.muli v3 c256_i32_52
  let v78 : Index := Scalar.indexCast v77
  let c0_53 : Index := 0#32
  ![v78.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c256_i32_54 : BitVec 32 := 256#32
  let v82 : BitVec 32 := Scalar.muli v3 c256_i32_54
  let v83 : Index := Scalar.indexCast v82
  let c0_55 : Index := 0#32
  ![v83.toNat, 0]
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_62 : BitVec 32 := 1#32
  let v89 : BitVec 32 := Scalar.muli v3 c1_i32_62
  let v90 : BitVec 32 := Scalar.addi c0_i32_63 v89
  v90.toNat
def k0_off7 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_68 : BitVec 32 := 256#32
  let v99 : BitVec 32 := Scalar.muli v4 c256_i32_68
  let v100 : Index := Scalar.indexCast v99
  let c0_69 : Index := 0#32
  ![v100.toNat, 0]
def k0_off8 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_73 : BitVec 32 := 256#32
  let v106 : BitVec 32 := Scalar.muli v4 c256_i32_73
  let v107 : Index := Scalar.indexCast v106
  let c0_74 : Index := 0#32
  ![v107.toNat, 0]
def k0_off9 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_75 : BitVec 32 := 256#32
  let v111 : BitVec 32 := Scalar.muli v4 c256_i32_75
  let v112 : Index := Scalar.indexCast v111
  let c512_76 : Index := 512#32
  ![v112.toNat, 512]
def k0_dev6 (d0 : Dev nD) : Nat :=
  let c0_i32_84 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_83 : BitVec 32 := 1#32
  let v118 : BitVec 32 := Scalar.muli v4 c1_i32_83
  let v119 : BitVec 32 := Scalar.addi c0_i32_84 v118
  v119.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_89 : BitVec 32 := 256#32
  let v128 : BitVec 32 := Scalar.muli v2 c256_i32_89
  let v129 : Index := Scalar.indexCast v128
  let c0_90 : Index := 0#32
  ![v129.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_94 : BitVec 32 := 256#32
  let v135 : BitVec 32 := Scalar.muli v2 c256_i32_94
  let v136 : Index := Scalar.indexCast v135
  let c0_95 : Index := 0#32
  ![v136.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c256_i32_109 : BitVec 32 := 256#32
  let v151 : BitVec 32 := Scalar.muli v3 c256_i32_109
  let v152 : Index := Scalar.indexCast v151
  let c512_110 : Index := 512#32
  ![v152.toNat, 512]
def k0_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_116 : BitVec 32 := 1#32
  let v159 : BitVec 32 := Scalar.muli v3 c1_i32_116
  let v160 : BitVec 32 := Scalar.addi c0_i32_117 v159
  v160.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_126 : BitVec 32 := 1#32
  let v169 : BitVec 32 := Scalar.muli v3 c1_i32_126
  let v170 : BitVec 32 := Scalar.addi c0_i32_127 v169
  v170.toNat
def k0_off13 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c256_i32_145 : BitVec 32 := 256#32
  let v190 : BitVec 32 := Scalar.muli v4 c256_i32_145
  let v191 : Index := Scalar.indexCast v190
  let c0_146 : Index := 0#32
  ![v191.toNat, 0]
def k0_dev9 (d0 : Dev nD) : Nat :=
  let c0_i32_154 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_153 : BitVec 32 := 1#32
  let v198 : BitVec 32 := Scalar.muli v4 c1_i32_153
  let v199 : BitVec 32 := Scalar.addi c0_i32_154 v198
  v199.toNat
def k0_dev10 (d0 : Dev nD) : Nat :=
  let c0_i32_164 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_163 : BitVec 32 := 1#32
  let v208 : BitVec 32 := Scalar.muli v4 c1_i32_163
  let v209 : BitVec 32 := Scalar.addi c0_i32_164 v208
  v209.toNat
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_189 : BitVec 32 := 256#32
  let v234 : BitVec 32 := Scalar.muli v2 c256_i32_189
  let v235 : Index := Scalar.indexCast v234
  let c0_190 : Index := 0#32
  ![v235.toNat, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_213 : BitVec 32 := 256#32
  let v267 : BitVec 32 := Scalar.muli v2 c256_i32_213
  let v268 : Index := Scalar.indexCast v267
  let c256 : Index := 256#32
  ![v268.toNat, 256]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_246 : BitVec 32 := 256#32
  let v308 : BitVec 32 := Scalar.muli v2 c256_i32_246
  let v309 : Index := Scalar.indexCast v308
  let c512_247 : Index := 512#32
  ![v309.toNat, 512]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_270 : BitVec 32 := 256#32
  let v341 : BitVec 32 := Scalar.muli v2 c256_i32_270
  let v342 : Index := Scalar.indexCast v341
  let c768 : Index := 768#32
  ![v342.toNat, 768]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Pieces.lean ====
/-
  Buffers owned piece by piece: a core owns the elements of a rectangle of a buffer and reads given values through it.
  Loads, stores and transfers through such pieces; a buffer cut into disjoint pieces and put together again.
-/
module

public import Idealize.ShloMosaic.Lib.Memref
public import Idealize.ShloMosaic.Lib.Rounds
public import Idealize.ShloMosaic.Lib.Tactic

@[expose] public section

noncomputable section

namespace Cert.Pieces

open Idealize.ShloMosaic
open Idealize.SL Idealize.SL.RA Idealize.SL.BI
open scoped Idealize.SL.BI
open Idealize.SL.BI.BIBase Idealize.SL.BI.Laws Idealize.SL.ProofMode Idealize.SL.Sem

/-! ## Rectangles within rectangles -/

/-- The part of an array given by the rectangle of sizes `size'` at offset `o`. -/
def part {A : Type} {n : ℕ} {size : Fin n → ℕ} (X : (⟨n, size⟩ : Shape).Idx → A) (o size' : Fin n → ℕ) (h : ∀ a, o a + size' a ≤ size a) :
    (⟨n, size'⟩ : Shape).Idx → A :=
  fun i => X ((Rect.unit (s := ⟨n, size⟩) o size' h).emb i)

/-- The whole array, as its own part at offset zero. -/
theorem part_self {A : Type} {n : ℕ} {size : Fin n → ℕ} (X : (⟨n, size⟩ : Shape).Idx → A) (o : Fin n → ℕ) (ho : ∀ a, o a = 0)
    (h : ∀ a, o a + size a ≤ size a) : part X o size h = X := by
  funext i; unfold part; congr 1; funext a; apply Fin.ext
  rw [Rect.emb_apply, Rect.off_unit, Rect.stride_unit, ho a]; omega

/-- An index of the part at offset `o` of the rectangle at `off` is the same index of the rectangle at `off + o`. -/
theorem emb_emb {s : Shape} {off size off' size' : Fin s.rank → ℕ} (o : Fin s.rank → ℕ) {inb : ∀ a, off a + size a ≤ s.size a}
    {inb' : ∀ a, off' a + size' a ≤ s.size a} (inbo : ∀ a, o a + size' a ≤ size a) (ho : ∀ a, off' a = off a + o a) (i : (⟨s.rank, size'⟩ : Shape).Idx) :
    (Rect.unit off size inb).emb ((Rect.unit (s := ⟨s.rank, size⟩) o size' inbo).emb i) = (Rect.unit off' size' inb').emb i := by
  funext a; apply Fin.ext
  simp only [Rect.emb_apply, Rect.off_unit, Rect.stride_unit, Nat.one_mul]
  exact (Nat.add_assoc _ _ _).symm.trans (by rw [← ho a])

/-! ## Contents glued from disjoint pieces -/

/-- The contents whose part at each of a family of rectangles is given. -/
def glue {A : Type} [Nonempty A] {s : Shape} {T : Type} (r : T → Rect s) (X : ∀ t, (r t).shape.Idx → A) : s.Idx → A := fun i =>
  open Classical in
  if h : ∃ x : (Σ t, (r t).shape.Idx), (r x.1).emb x.2 = i then X h.choose.1 h.choose.2 else Classical.arbitrary A

/-- At an index of one of the rectangles, pairwise disjoint, the glued contents are that rectangle's. -/
theorem glue_emb {A : Type} [Nonempty A] {s : Shape} {T : Type} (r : T → Rect s) (hd : ∀ t t', t ≠ t' → Disjoint (r t).set (r t').set)
    (X : ∀ t, (r t).shape.Idx → A) (t : T) (j : (r t).shape.Idx) : glue r X ((r t).emb j) = X t j := by
  have h : ∃ x : (Σ t, (r t).shape.Idx), (r x.1).emb x.2 = (r t).emb j := ⟨⟨t, j⟩, rfl⟩
  unfold glue
  rw [dif_pos h]
  have hs := h.choose_spec
  generalize h.choose = x at hs
  obtain ⟨t', j'⟩ := x
  have ht : t' = t := by
    by_contra hne
    exact Finset.disjoint_left.mp (hd t' t hne) ((r t').idx_mem j') (by
      have : (r t').idx j' = (r t).idx j := hs
      rw [this]; exact (r t).idx_mem j)
  subst ht
  have : j' = j := (r t').emb.injective hs
  subst this; rfl

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants) (c : Thread nD τ) (bd : Option 𝒱.V) (E : Set Name)

local notation "𝕄" => MT nD τ sig Ix Val Name U Lvl

variable {α : Type} {Q : α → sProp (MT nD τ sig Ix Val Name U Lvl)}
variable {sp : Space} {s : Shape} {e : EltTy}

/-! ## Pieces of pieces -/

/-- A piece of a piece is a piece of the buffer. -/
theorem owns_piece_piece (m : Memref sig c.2.kind sp s e) {off size off' size' : Fin s.rank → ℕ} (o : Fin s.rank → ℕ) {inb : ∀ a, off a + size a ≤ s.size a}
    {inb' : ∀ a, off' a + size' a ≤ s.size a} (inbo : ∀ a, o a + size' a ≤ size a) (ho : ∀ a, off' a = off a + o a)
    (hr : ∀ a, (Rect.unit off size inb).stride a = 1) (hr' : ∀ a, (Rect.unit off' size' inb').stride a = 1)
    (hro : ∀ a, (Rect.unit (s := ⟨s.rank, size⟩) o size' inbo).stride a = 1) (q : PosShare TreeShare) (X : (⟨s.rank, size'⟩ : Shape).Idx → Val e) :
    (owns c ((m.slice (Rect.unit off size inb) hr).slice (Rect.unit (s := ⟨s.rank, size⟩) o size' inbo) hro) q X : sProp 𝕄)
      = owns c (m.slice (Rect.unit off' size' inb') hr') q X := by
  have hemb : ((m.slice (Rect.unit off size inb) hr).slice (Rect.unit (s := ⟨s.rank, size⟩) o size' inbo) hro).view.emb
      = (m.slice (Rect.unit off' size' inb') hr').view.emb := by
    ext i : 1
    exact congrArg m.view.emb (emb_emb o inbo ho i)
  have hset : ((m.slice (Rect.unit off size inb) hr).slice (Rect.unit (s := ⟨s.rank, size⟩) o size' inbo) hro).view.set
      = (m.slice (Rect.unit off' size' inb') hr').view.set := congrArg (Finset.univ.map ·) hemb
  have hread (f : m.view.ty.Contents Val) : ((m.slice (Rect.unit off size inb) hr).slice (Rect.unit (s := ⟨s.rank, size⟩) o size' inbo) hro).view.read Val f
      = (m.slice (Rect.unit off' size' inb') hr').view.read Val f := by
    funext i
    exact congrArg (fun j => _root_.cast (congrArg Val m.view.elt_eq) (f j)) (DFunLike.congr_fun hemb i)
  unfold owns
  have h₁ : iprop(∃ f, ⌜((m.slice (Rect.unit off size inb) hr).slice (Rect.unit (s := ⟨s.rank, size⟩) o size' inbo) hro).view.read Val f = X⌝
        ∗ (m.view.loc c ↦[((m.slice (Rect.unit off size inb) hr).slice (Rect.unit (s := ⟨s.rank, size⟩) o size' inbo) hro).view.set]{q} f))
      ⊢ (iprop(∃ f, ⌜(m.slice (Rect.unit off' size' inb') hr').view.read Val f = X⌝ ∗ (m.view.loc c ↦[(m.slice (Rect.unit off' size' inb') hr').view.set]{q} f)) : sProp 𝕄) := by
    iintro ⟨%f, %hf, H⟩
    iexists f
    isplitr; · ipureintro; exact (hread f).symm.trans hf
    rw [← hset]; iexact H
  have h₂ : iprop(∃ f, ⌜(m.slice (Rect.unit off' size' inb') hr').view.read Val f = X⌝ ∗ (m.view.loc c ↦[(m.slice (Rect.unit off' size' inb') hr').view.set]{q} f))
      ⊢ (iprop(∃ f, ⌜((m.slice (Rect.unit off size inb) hr).slice (Rect.unit (s := ⟨s.rank, size⟩) o size' inbo) hro).view.read Val f = X⌝
        ∗ (m.view.loc c ↦[((m.slice (Rect.unit off size inb) hr).slice (Rect.unit (s := ⟨s.rank, size⟩) o size' inbo) hro).view.set]{q} f)) : sProp 𝕄) := by
    iintro ⟨%f, %hf, H⟩
    iexists f
    isplitr; · ipureintro; exact (hread f).trans hf
    rw [hset]; iexact H
  exact BI.equiv_iff.mp ⟨h₁, h₂⟩

/-! ## Loads and stores through pieces -/

/-- A load of a part of an owned piece reads that part of its contents. -/
theorem wp_load_part {cs : CoreSpace} {m : Memref sig c.2.kind cs s e} {off size off' size' : Fin s.rank → ℕ} {inb : ∀ a, off a + size a ≤ s.size a}
    {inb' : ∀ a, off' a + size' a ≤ s.size a} {hr : ∀ a, (Rect.unit off size inb).stride a = 1} (o : Fin s.rank → ℕ) (inbo : ∀ a, o a + size' a ≤ size a)
    (ho : ∀ a, off' a = off a + o a) {hl : m.view.LoadsAt (Rect.unit off' size' inb').toLoadRect}
    {k : ((⟨s.rank, size'⟩ : Shape).Idx → Val e) → Prog (TpuEff nD τ sig Val Λ c.2) α} {q : PosShare TreeShare} {X : (⟨s.rank, size⟩ : Shape).Idx → Val e} :
    (owns c (m.slice (Rect.unit off size inb) hr) q X : sProp 𝕄)
      ⊢ iprop((owns c (m.slice (Rect.unit off size inb) hr) q X -∗ wp frame (wpE defs 𝒱 c bd) E (k (part X o size' inbo)) Q)
        -∗ wp frame (wpE defs 𝒱 c bd) E (.op (.load m (Rect.unit off' size' inb').toLoadRect hl) k) Q) := by
  have hsub : m.view.setOn (Rect.unit off' size' inb').set ⊆ (m.slice (Rect.unit off size inb) hr).view.set := by
    rw [show (m.slice (Rect.unit off size inb) hr).view.set = (Rect.unit off size inb).set.map m.view.emb from View.set_slice _ _]
    refine Finset.map_subset_map.mpr fun i hi => ?_
    obtain ⟨j, rfl⟩ := (Rect.unit off' size' inb').exists_idx_of_mem hi
    have : (Rect.unit off' size' inb').idx j = (Rect.unit off size inb).idx ((Rect.unit (s := ⟨s.rank, size⟩) o size' inbo).emb j) := (emb_emb o inbo ho j).symm
    rw [this]; exact (Rect.unit off size inb).idx_mem _
  unfold owns
  iintro ⟨%f, %hf, H⟩ Hk
  have hval : m.view.readAt Val (Rect.unit off' size' inb').toLoadRect f = part X o size' inbo := by
    subst hf; funext i
    exact congrArg (fun j => m.view.read Val f j) (emb_emb (inb := inb) (inb' := inb') o inbo ho i).symm
  iapply (wp_load 𝒱 c bd E (m := m) hsub) $$ H
  iintro H
  rw [hval]
  iapply Hk
  iexists f
  isplitr; · ipureintro; exact hf
  iexact H

/-- A load of exactly an owned piece reads its contents. -/
theorem wp_load_piece {cs : CoreSpace} {m : Memref sig c.2.kind cs s e} {r : Rect s} {hr : ∀ a, r.stride a = 1}
    {hl : m.view.LoadsAt r.toLoadRect} {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c bd) E (k X) Q)
        -∗ wp frame (wpE defs 𝒱 c bd) E (.op (.load m r.toLoadRect hl) k) Q) := by
  have hsub : m.view.setOn r.set ⊆ (m.slice r hr).view.set := by
    rw [show (m.slice r hr).view.set = r.set.map m.view.emb from View.set_slice _ _]; exact subset_rfl
  unfold owns
  iintro ⟨%f, %hf, H⟩ Hk
  have hval : m.view.readAt Val r.toLoadRect f = X := hf
  iapply (wp_load 𝒱 c bd E (m := m) hsub) $$ H
  iintro H
  rw [hval]
  iapply Hk
  iexists f
  isplitr; · ipureintro; exact hf
  iexact H

/-- A load of a rectangle of a whole owned buffer reads that part of its contents. -/
theorem wp_load_of_all {cs : CoreSpace} {m : Memref sig c.2.kind cs s e} {off size' : Fin s.rank → ℕ} {inb : ∀ a, off a + size' a ≤ s.size a}
    {hl : m.view.LoadsAt (Rect.unit off size' inb).toLoadRect}
    {k : ((⟨s.rank, size'⟩ : Shape).Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (part (n := s.rank) (size := s.size) X off size' inb)) Q)
        -∗ wp frame (wpE defs 𝒱 c bd) E (.op (.load m (Rect.unit off size' inb).toLoadRect hl) k) Q) := by
  have hsub : m.view.setOn (Rect.unit off size' inb).set ⊆ m.view.set := Finset.map_subset_map.mpr (Finset.subset_univ _)
  unfold owns
  iintro ⟨%f, %hf, H⟩ Hk
  have hval : m.view.readAt Val (Rect.unit off size' inb).toLoadRect f = part (n := s.rank) (size := s.size) X off size' inb := by
    subst hf; rfl
  iapply (wp_load 𝒱 c bd E (m := m) hsub) $$ H
  iintro H
  rw [hval]
  iapply Hk
  iexists f
  isplitr; · ipureintro; exact hf
  iexact H

/-- A store to exactly an owned piece replaces its contents. -/
theorem wp_store_piece {cs : CoreSpace} {m : Memref sig c.2.kind cs s e} {r : Rect s} {hr : ∀ a, r.stride a = 1} {w : r.shape.Idx → Val e}
    {hx : (m.access r).Stores Finset.univ} {hm : Finset.univ = (Finset.univ : Finset r.shape.Idx) ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (Mk := Finset.univ) (S := (m.slice r hr).view.set) subset_rfl) $$ H
  iintro H
  iapply Hk
  iexists _
  isplitr
  · ipureintro; exact View.read_write_univ (v := m.access r) (Val := Val) f w
  iexact H

/-! ## What a transfer between two squeezed pieces lands -/

/-- Written through a reshaped view with what another view reads through the same reshape, a view reads what that other view reads. -/
theorem read_landed {κ κ' : Kind} {sp' : Space} {s' : Shape} (v : View sig κ sp s e) (v' : View sig κ' sp' s e) (h h' : s'.numel = s.numel)
    (fd : v.ty.Contents Val) (fs : v'.ty.Contents Val) :
    v.read Val ((v.reshape s' h).write Val fd ((v'.reshape s' h').read Val fs) Finset.univ) = v'.read Val fs := by
  funext x
  obtain ⟨y, rfl⟩ := (Shape.reshapeEquiv h).surjective x
  exact congrFun (View.read_write_univ (v := v.reshape s' h) (Val := Val) fd ((v'.reshape s' h').read Val fs)) y

/-! ## A buffer cut into pieces and put together -/

/-- A buffer owned at any contents is each of a disjoint covering family of pieces, at any contents. -/
theorem owns_cut {T : Type} [Fintype T] [DecidableEq T] (m : Memref sig c.2.kind sp s e) (q : PosShare TreeShare) (r : T → Rect s) (hr : ∀ t a, (r t).stride a = 1)
    (hd : ∀ t t', t ≠ t' → Disjoint (r t).set (r t').set) (hcov : (Finset.univ : Finset T).biUnion (fun t => (r t).set) = Finset.univ) :
    iprop(∃ X, owns c m q X) ⊢ (bigSep Finset.univ fun t => iprop(∃ X, owns c (m.slice (r t) (hr t)) q X) : sProp 𝕄) := by
  have hone (X : s.Idx → Val e) (t : T) : owns c (m.slice (r t) (hr t)) q (fun j => X ((r t).emb j)) ⊢ (iprop(∃ X, owns c (m.slice (r t) (hr t)) q X) : sProp 𝕄) := by
    iintro H; iexists _; iexact H
  iintro ⟨%X, H⟩
  have hall : owns c m q X ⊢ (bigSep Finset.univ fun t => iprop(∃ X, owns c (m.slice (r t) (hr t)) q X) : sProp 𝕄) :=
    (owns_rects c m q r hr hd hcov X).trans (bigSep_mono fun t _ => hone X t)
  iapply hall
  iexact H

/-- A disjoint covering family of pieces, each at its contents, is the buffer at the contents glued from them. -/
theorem owns_glue [∀ e, Nonempty (Val e)] {T : Type} [Fintype T] [DecidableEq T] (m : Memref sig c.2.kind sp s e) (q : PosShare TreeShare) (r : T → Rect s)
    (hr : ∀ t a, (r t).stride a = 1) (hd : ∀ t t', t ≠ t' → Disjoint (r t).set (r t').set)
    (hcov : (Finset.univ : Finset T).biUnion (fun t => (r t).set) = Finset.univ) (X : ∀ t, (r t).shape.Idx → Val e) :
    (bigSep Finset.univ fun t => owns c (m.slice (r t) (hr t)) q (X t)) ⊢ (owns c m q (glue r X) : sProp 𝕄) := by
  refine BIBase.Entails.trans (BIBase.Entails.of_eq (bigSep_congr fun t _ => ?_)) (owns_of_rects c m q r hr hd hcov (glue r X))
  congr 1
  funext j
  exact (glue_emb r hd X t j).symm

end Cert.Pieces

end
-- ==== Proof.KernelIdealRun.Contents.lean ====
/-
  What the kernel computes, as functions of the four devices' arguments: the products each device forms, what each of
  the eight transfers of a device carries, and the four column blocks of the result.
-/
module

public import proofs.«01_k».proof.Proof.Gen.KernelIdeal
public import proofs.«01_k».proof.Proof.Gen.KernelIdeal.Skeleton
public import proofs.«01_k».proof.Proof.Pieces

@[expose] public section

noncomputable section

namespace Cert.KernelIdeal.Run

open Cert.KernelIdeal Cert.KernelIdeal.Gen Cert.Pieces
open Idealize.ShloMosaic Idealize.ShloMosaic.TcCoe

variable {F : FTy → Type} [FloatOps F]

/-! ## The mesh: each device exchanges with two partners -/

/-- The partner whose number differs in the last bit. -/
def yp (c : Dev nD) : Dev nD := ⟨(![1, 0, 3, 2] : Fin 4 → ℕ) c, by revert c; decide⟩
/-- The partner at the mirrored position. -/
def xp (c : Dev nD) : Dev nD := ⟨(![3, 2, 1, 0] : Fin 4 → ℕ) c, by revert c; decide⟩

theorem yp_yp (c : Dev nD) : yp (yp c) = c := by revert c; decide
theorem xp_xp (c : Dev nD) : xp (xp c) = c := by revert c; decide

/-! ## Parts of the arguments and of the products -/

section

variable (X : Dev nD → Vec F S1024x256 .f32) (W : Dev nD → Vec F S256x1024 .f32)

/-- The 256 rows of device c's left argument that begin at the row the kernel computes for its partner's partner, -/
def xDiag (c : Dev nD) : Vec F S256x256 .f32 := part (n := 2) (size := S1024x256.size) (X c) (k0_off1 c) S256x256.size (k0_off1_inb c)
/-- for its `yp` partner, -/
def xYp (c : Dev nD) : Vec F S256x256 .f32 := part (n := 2) (size := S1024x256.size) (X c) (k0_off4 c) S256x256.size (k0_off4_inb c)
/-- for its `xp` partner, -/
def xXp (c : Dev nD) : Vec F S256x256 .f32 := part (n := 2) (size := S1024x256.size) (X c) (k0_off7 c) S256x256.size (k0_off7_inb c)
/-- and for itself. -/
def xOwn (c : Dev nD) : Vec F S256x256 .f32 := part (n := 2) (size := S1024x256.size) (X c) (k0_off10 c) S256x256.size (k0_off10_inb c)

/-- The left and the right half of the columns of device c's right argument. -/
def wL (c : Dev nD) : Vec F S256x512 .f32 := part (n := 2) (size := S256x1024.size) (W c) ![0, 0] S256x512.size inb_S256x1024_S256x512_0_0
def wR (c : Dev nD) : Vec F S256x512 .f32 := part (n := 2) (size := S256x1024.size) (W c) ![0, 512] S256x512.size inb_S256x1024_S256x512_0_512

/-- Device c's products: right and left half of the diagonal device's rows, then the rows of the two partners and its own. -/
def prodDR (c : Dev nD) : Vec F S256x512 .f32 := k0_pay1 (xDiag X c) (wR W c)
def prodDL (c : Dev nD) : Vec F S256x512 .f32 := k0_pay3 (xDiag X c) (wL W c)
def prodYp (c : Dev nD) : Vec F S256x1024 .f32 := k0_pay5 (xYp X c) (W c)
def prodXp (c : Dev nD) : Vec F S256x1024 .f32 := k0_pay7 (xXp X c) (W c)
def prodOwn (c : Dev nD) : Vec F S256x1024 .f32 := k0_pay9 (xOwn X c) (W c)

end

theorem inb_L : ∀ a, (![0, 0] : Fin 2 → ℕ) a + S256x512.size a ≤ S256x1024.size a := by decide
theorem inb_R : ∀ a, (![0, 512] : Fin 2 → ℕ) a + S256x512.size a ≤ S256x1024.size a := by decide
/-- The left and the right half of the columns of a product. -/
def halfL (V : Vec F S256x1024 .f32) : Vec F S256x512 .f32 := part (n := 2) (size := S256x1024.size) V ![0, 0] S256x512.size inb_L
def halfR (V : Vec F S256x1024 .f32) : Vec F S256x512 .f32 := part (n := 2) (size := S256x1024.size) V ![0, 512] S256x512.size inb_R

theorem inb_quarter (k : Fin 4) : ∀ a, (![0, 256 * k.val] : Fin 2 → ℕ) a + S256x256.size a ≤ S256x1024.size a := by revert k; decide
/-- The k-th quarter of the columns of a product. -/
def quarter (V : Vec F S256x1024 .f32) (k : Fin 4) : Vec F S256x256 .f32 :=
  part (n := 2) (size := S256x1024.size) V ![0, 256 * k.val] S256x256.size (inb_quarter k)

theorem inb_slotHalf (k : Fin 2) : ∀ a, (![0, 0, 256 * k.val] : Fin 3 → ℕ) a + S1x256x256.size a ≤ S1x256x512.size a := by revert k; decide
/-- The k-th half of the columns of a slot. -/
def slotHalf (V : Vec F S1x256x512 .bf16) (k : Fin 2) : Vec F S1x256x256 .bf16 :=
  part (n := 3) (size := S1x256x512.size) V ![0, 0, 256 * k.val] S1x256x256.size (inb_slotHalf k)

/-! ## The eight transfers of a device -/

section

variable (X : Dev nD → Vec F S1024x256 .f32) (W : Dev nD → Vec F S256x1024 .f32)

/-- The partner a transfer goes to: `xp` for the first four, `yp` for the last four. -/
def peer (t : Fin 8) (c : Dev nD) : Dev nD := if t.val < 4 then xp c else yp c

theorem peer_peer (t : Fin 8) (c : Dev nD) : peer t (peer t c) = c := by
  unfold peer; split
  · exact xp_xp c
  · exact yp_yp c

/-- First phase, to `xp`: the right half of the diagonal device's rows, of `xp`'s rows; -/
def sentDR (c : Dev nD) : Vec F S1x256x512 .bf16 := k0_pay2 (prodDR X W c)
def sentXp (c : Dev nD) : Vec F S1x256x512 .bf16 := k0_pay8 (halfR (prodXp X W c))
/-- to `yp`: the left half of the diagonal device's rows, of `yp`'s rows. -/
def sentDL (c : Dev nD) : Vec F S1x256x512 .bf16 := k0_pay4 (prodDL X W c)
def sentYp (c : Dev nD) : Vec F S1x256x512 .bf16 := k0_pay6 (halfL (prodYp X W c))
/-- Second phase: what `xp` sent for `yp`, with c's own product for `yp`, goes to `yp`; -/
def sumYp (c : Dev nD) : Vec F S1x256x512 .bf16 := k0_pay11 (k0_pay10 (sentDR X W (xp c)) (halfR (prodYp X W c)))
/-- what `yp` sent for `xp`, with c's own product for `xp`, goes to `xp`. -/
def sumXp (c : Dev nD) : Vec F S1x256x512 .bf16 := k0_pay12 (sentDL X W (yp c)) (halfL (prodXp X W c))

/-- The sizes of what a transfer moves: a slot in the first phase, half a slot in the second. -/
def sz (t : Fin 8) : Fin 3 → ℕ := match t with
  | 0 => S1x256x512.size | 1 => S1x256x512.size | 2 => S1x256x256.size | 3 => S1x256x256.size
  | 4 => S1x256x512.size | 5 => S1x256x512.size | 6 => S1x256x256.size | 7 => S1x256x256.size

/-- What device c's transfer t carries. -/
def cont (t : Fin 8) (c : Dev nD) : (⟨3, sz t⟩ : Shape).Idx → Elt F .bf16 := match t with
  | 0 => sentDR X W c
  | 1 => sentXp X W c
  | 2 => slotHalf (sumXp X W c) 0
  | 3 => slotHalf (sumXp X W c) 1
  | 4 => sentDL X W c
  | 5 => sentYp X W c
  | 6 => slotHalf (sumYp X W c) 0
  | 7 => slotHalf (sumYp X W c) 1

/-! ## The result of a device, a quarter of the columns at a time -/

def out0 (c : Dev nD) : Vec F S256x256 .f32 :=
  k0_pay14 (k0_pay13 (quarter (prodOwn X W c) 0) (slotHalf (sentYp X W (yp c)) 0)) (slotHalf (sumXp X W (xp c)) 0)
def out1 (c : Dev nD) : Vec F S256x256 .f32 :=
  k0_pay16 (k0_pay15 (quarter (prodOwn X W c) 1) (slotHalf (sentYp X W (yp c)) 1)) (slotHalf (sumXp X W (xp c)) 1)
def out2 (c : Dev nD) : Vec F S256x256 .f32 :=
  k0_pay17 (quarter (prodOwn X W c) 2) (slotHalf (sentXp X W (xp c)) 0) (slotHalf (sumYp X W (yp c)) 0)
def out3 (c : Dev nD) : Vec F S256x256 .f32 :=
  k0_pay18 (quarter (prodOwn X W c) 3) (slotHalf (sentXp X W (xp c)) 1) (slotHalf (sumYp X W (yp c)) 1)

end

/-- The four column blocks of the result. -/
def rOut (k : Fin 4) : Rect S256x1024 := Rect.unit (s := S256x1024) ![0, 256 * k.val] S256x256.size (inb_quarter k)

/-- The blocks' contents. -/
def outPiece (X : Dev nD → Vec F S1024x256 .f32) (W : Dev nD → Vec F S256x1024 .f32) (c : Dev nD) : ∀ k : Fin 4, (rOut k).shape.Idx → Elt F .f32
  | 0 => out0 X W c
  | 1 => out1 X W c
  | 2 => out2 X W c
  | 3 => out3 X W c

theorem rOut_stride (k : Fin 4) (a : Fin 2) : (rOut k).stride a = 1 := rfl

theorem rOut_disj (k k' : Fin 4) (h : k ≠ k') : Disjoint (rOut k).set (rOut k').set := by
  have h' : k.val ≠ k'.val := fun e => h (Fin.ext e)
  refine Rect.unit_disjoint (1 : Fin 2) ?_
  show 256 * k.val + 256 ≤ 256 * k'.val ∨ 256 * k'.val + 256 ≤ 256 * k.val
  omega

theorem rOut_cover : (Finset.univ : Finset (Fin 4)).biUnion (fun k => (rOut k).set) = Finset.univ := by
  refine Finset.eq_univ_of_forall fun i => Finset.mem_biUnion.mpr ?_
  have h0 : (i (0 : Fin 2) : ℕ) < 256 := (i (0 : Fin 2)).isLt
  have h1 : (i (1 : Fin 2) : ℕ) < 1024 := (i (1 : Fin 2)).isLt
  refine ⟨⟨(i (1 : Fin 2) : ℕ) / 256, by omega⟩, Finset.mem_univ _, ?_⟩
  unfold rOut
  rw [Rect.mem_set_unit]
  refine Fin.forall_fin_two.mpr ⟨?_, ?_⟩
  · show 0 ≤ (i (0 : Fin 2) : ℕ) ∧ (i (0 : Fin 2) : ℕ) < 0 + 256
    omega
  · show 256 * ((i (1 : Fin 2) : ℕ) / 256) ≤ (i (1 : Fin 2) : ℕ) ∧ (i (1 : Fin 2) : ℕ) < 256 * ((i (1 : Fin 2) : ℕ) / 256) + 256
    omega

/-- Device c's result. -/
def outAt (X : Dev nD → Vec F S1024x256 .f32) (W : Dev nD → Vec F S256x1024 .f32) (c : Dev nD) : Vec F S256x1024 .f32 :=
  haveI : Nonempty (Elt F .f32) := ⟨out0 X W c (fun a => ⟨0, by revert a; decide⟩)⟩
  glue rOut (outPiece X W c)

end Cert.KernelIdeal.Run

end
-- ==== Proof.KernelIdealRun.Protocol.lean ====
/-
  The protocol between the four devices. Seventeen semaphores on each device: the barrier, on which each device's two
  partners signal once each; a send and a receive semaphore for each of its eight transfers. The barrier signal of a
  partner hands over the buffer that the device's transfers to that partner will fill; a transfer's landing hands the
  receiver the slot with the sender's contents, and its departure hands the sender its own slot back.
-/
module

public import proofs.«01_k».proof.Proof.KernelIdealRun.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Duties: who pays what onto which semaphore -/

/-- A duty of a device's semaphores: a signal of the barrier (`false` from `yp`, `true` from `xp`), the departure of the
    device's own transfer t, the landing of its partner's transfer t. -/
abbrev Du : Type := Bool ⊕ (Fin 8 ⊕ Fin 8)

abbrev barD (b : Bool) : Du := .inl b
abbrev sndD (t : Fin 8) : Du := .inr (.inl t)
abbrev rcvD (t : Fin 8) : Du := .inr (.inr t)

abbrev UB : Type := URounds (GSem nD τ sig) Du
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The barrier semaphore, and the send and receive semaphores of transfer t. -/
abbrev barS : Sem sig := (SemArray.scalar (sig.barrier 0 rfl) : Sems sig S_).sem
def sndQ (t : Fin 8) : DmaSem sig := ⟨(![3, 4, 5, 6, 11, 12, 13, 14] : Fin 8 → ℕ) t, by revert t; decide⟩
def rcvQ (t : Fin 8) : DmaSem sig := ⟨(![7, 8, 9, 10, 15, 16, 17, 18] : Fin 8 → ℕ) t, by revert t; decide⟩

/-- The semaphores of a device: the barrier, and those of the transfers. -/
abbrev Ck : Type := Option (Fin 8 ⊕ Fin 8)
/-- The transfers' semaphores, the scoped ones. -/
def osem (x : Fin 8 ⊕ Fin 8) : SemLoc sig := .dma (x.elim sndQ rcvQ)
def csem (k : Ck) : SemLoc sig := k.elim (.reg barS) osem
def kOf (d : Du) : Ck := d.elim (fun _ => none) some
/-- The semaphore a duty is paid onto. -/
abbrev semOf (d : Du) : SemLoc sig := csem (kOf d)

abbrev kcell (ck : Dev nD × Ck) : GSem nD τ sig := ((ck.1 : Thread nD τ), csem ck.2)
abbrev dcell (c : Dev nD) (d : Du) : GSem nD τ sig := ((c : Thread nD τ), semOf d)

theorem osem_inj : Function.Injective osem := by
  have h : ∀ x y : Fin 8 ⊕ Fin 8, x.elim sndQ rcvQ = y.elim sndQ rcvQ → x = y := by decide
  exact fun x y e => h x y (SemLoc.dma.inj e)
theorem csem_inj : Function.Injective csem := by
  intro k k' h
  cases k with
  | none => cases k' with
    | none => rfl
    | some y => exact absurd h (fun h => by cases h)
  | some x => cases k' with
    | none => exact absurd h (fun h => by cases h)
    | some y => rw [osem_inj h]

/-- The device whose semaphore device c pays duty d onto. -/
def tgt (d : Du) (c : Dev nD) : Dev nD := match d with
  | .inl b => if b then xp c else yp c
  | .inr (.inl _) => c
  | .inr (.inr t) => peer t c

theorem tgt_tgt (d : Du) (c : Dev nD) : tgt d (tgt d c) = c := by
  rcases d with b | t | t
  · cases b
    · exact yp_yp c
    · exact xp_xp c
  · rfl
  · exact peer_peer t c

def tgtE (d : Du) : Dev nD ≃ Dev nD := ⟨tgt d, tgt d, tgt_tgt d, tgt_tgt d⟩

/-! ## The slots -/

abbrev xM : Memref sig .tc .vmem S1024x256 .f32 := Memref.whole cc0_stg0_0
abbrev wM : Memref sig .tc .vmem S256x1024 .f32 := Memref.whole cc0_stg1_0
abbrev oM : Memref sig .tc .vmem S256x1024 .f32 := Memref.whole cc0_stg2_0
/-- The products; the slots sent from; the slots `xp`'s transfers land in, and `yp`'s. -/
abbrev yM : Memref sig .tc .vmem S1024x1024 .f32 := Memref.whole cc0_scratch0
abbrev sM : Memref sig .tc .vmem S6x256x512 .bf16 := Memref.whole cc0_scratch1
abbrev aM : Memref sig .tc .vmem S3x256x512 .bf16 := Memref.whole cc0_scratch2
abbrev bM : Memref sig .tc .vmem S3x256x512 .bf16 := Memref.whole cc0_scratch3

/-- Where in the send buffer a transfer's source lies, and where in the receive buffer its destination. -/
def sOff (t : Fin 8) : Fin 3 → ℕ := match t with
  | 0 => ![0, 0, 0] | 1 => ![1, 0, 0] | 2 => ![4, 0, 0] | 3 => ![4, 0, 256] | 4 => ![2, 0, 0] | 5 => ![3, 0, 0] | 6 => ![5, 0, 0] | 7 => ![5, 0, 256]
def dOff (t : Fin 8) : Fin 3 → ℕ := match t with
  | 0 => ![0, 0, 0] | 1 => ![1, 0, 0] | 2 => ![2, 0, 0] | 3 => ![2, 0, 256] | 4 => ![0, 0, 0] | 5 => ![1, 0, 0] | 6 => ![2, 0, 0] | 7 => ![2, 0, 256]
theorem sOff_inb (t : Fin 8) : ∀ a, sOff t a + sz t a ≤ S6x256x512.size a := by revert t; decide
theorem dOff_inb (t : Fin 8) : ∀ a, dOff t a + sz t a ≤ S3x256x512.size a := by revert t; decide

/-- The receive buffer a transfer lands in. -/
def dM (t : Fin 8) : Memref sig .tc .vmem S3x256x512 .bf16 := match t with
  | 0 => aM | 1 => aM | 2 => aM | 3 => aM | 4 => bM | 5 => bM | 6 => bM | 7 => bM

def sRect (t : Fin 8) : Rect S6x256x512 := Rect.unit (s := S6x256x512) (sOff t) (sz t) (sOff_inb t)
def dRect (t : Fin 8) : Rect S3x256x512 := Rect.unit (s := S3x256x512) (dOff t) (sz t) (dOff_inb t)

/-- Device c owns the source of its transfer t at contents Y; -/
def sSlot (t : Fin 8) (c : Dev nD) (Y : (⟨3, sz t⟩ : Shape).Idx → Elt F .bf16) : sProp 𝕄 :=
  owns (c : Thread nD τ) (sM.slice (sRect t) (fun _ => rfl)) fullShare Y
/-- it owns the place where its partner's transfer t lands at contents Y. -/
def dSlot (t : Fin 8) (c : Dev nD) (Y : (⟨3, sz t⟩ : Shape).Idx → Elt F .bf16) : sProp 𝕄 :=
  owns (c : Thread nD τ) ((dM t).slice (dRect t) (fun _ => rfl)) fullShare Y

instance sSlot_storable (t : Fin 8) (c : Dev nD) (Y) : BI.Storable (upEmb : UEmb _ 𝕄) (sSlot (F := F) t c Y) := by unfold sSlot; exact owns_storable _ _ _ _
instance dSlot_storable (t : Fin 8) (c : Dev nD) (Y) : BI.Storable (upEmb : UEmb _ 𝕄) (dSlot (F := F) t c Y) := by unfold dSlot; exact owns_storable _ _ _ _

/-! ## The schedule -/

section

variable (X : Dev nD → Vec F S1024x256 .f32) (W : Dev nD → Vec F S256x1024 .f32)

/-- The four places of device c that a partner's transfers land in: transfers 4 to 7 for `yp`, 0 to 3 for `xp`. -/
def landing (b : Bool) (c : Dev nD) : sProp 𝕄 :=
  if b then iprop((∃ Y, dSlot 0 c Y) ∗ (∃ Y, dSlot 1 c Y) ∗ (∃ Y, dSlot 2 c Y) ∗ (∃ Y, dSlot 3 c Y))
  else iprop((∃ Y, dSlot 4 c Y) ∗ (∃ Y, dSlot 5 c Y) ∗ (∃ Y, dSlot 6 c Y) ∗ (∃ Y, dSlot 7 c Y))

instance landing_storable (b : Bool) (c : Dev nD) : BI.Storable (upEmb : UEmb _ 𝕄) (landing (F := F) b c) := by
  unfold landing; split <;> infer_instance

/-- What paying duty d of device c's semaphores hands device c. -/
def pay (c : Dev nD) (d : Du) : sProp 𝕄 := match d with
  | .inl b => landing b (tgt (barD b) c)
  | .inr (.inl t) => sSlot t c (cont X W t c)
  | .inr (.inr t) => dSlot t c (cont X W t (peer t c))

/-- Its units: one for a signal, the slot's credit for a transfer. -/
def amt (d : Du) : ℕ := match d with
  | .inl _ => 1
  | .inr (.inl t) => ((dM t).slice (dRect t) (fun _ => rfl)).view.dmaCredit
  | .inr (.inr t) => ((dM t).slice (dRect t) (fun _ => rfl)).view.dmaCredit

theorem credit_pos (t : Fin 8) : 0 < ((dM t).slice (dRect t) (fun _ => rfl)).view.dmaCredit :=
  View.dmaCredit_pos _ (by revert t; decide)

theorem amt_pos (d : Du) : 0 < amt d := by
  rcases d with b | t | t
  · exact Nat.one_pos
  · exact credit_pos t
  · exact credit_pos t

/-- One round: the duties paid onto a semaphore are those that name it. -/
def rd : Rounds.Schedule (GSem nD τ sig) Du 𝕄 where
  duties g r := if r = 0 ∧ g.1.2 = .tc then Finset.univ.filter fun d => semOf d = g.2 else ∅
  unitless _ := False
  amount _ _ d := amt d
  payload g _ d := pay X W g.1.1 d
  amount_pos _ _ d _ := amt_pos d

instance rd_payload_storable (g : GSem nD τ sig) (r : ℕ) (d : Du) : BI.Storable (upEmb : UEmb _ 𝕄) ((rd X W).payload g r d) := by
  show BI.Storable upEmb (pay X W g.1.1 d)
  rcases d with b | t | t
  · exact landing_storable b _
  · exact sSlot_storable t _ _
  · exact dSlot_storable t _ _

theorem duties_zero (c : Dev nD) (sm : SemLoc sig) : (rd X W).duties ((c : Thread nD τ), sm) 0 = Finset.univ.filter fun d => semOf d = sm := by
  dsimp only [rd]; exact if_pos ⟨rfl, rfl⟩
theorem duties_later (g : GSem nD τ sig) : ∀ r, 1 ≤ r → (rd X W).duties g r = ∅ := fun r hr => by
  dsimp only [rd]; exact if_neg fun h => by omega
theorem mem_duties (c : Dev nD) (d : Du) : d ∈ (rd X W).duties (dcell c d) 0 := by
  rw [duties_zero]; exact Finset.mem_filter.mpr ⟨Finset.mem_univ _, rfl⟩
theorem duties_bar (c : Dev nD) (b : Bool) : (rd X W).duties (dcell c (barD b)) 0 = {barD false, barD true} := by
  rw [duties_zero]; ext d
  simp only [Finset.mem_filter, Finset.mem_univ, true_and, Finset.mem_insert, Finset.mem_singleton]
  rcases d with b' | x
  · exact ⟨fun _ => by cases b' <;> simp, fun _ => rfl⟩
  · exact ⟨fun h => absurd (csem_inj h) (fun h => by cases h), fun h => by rcases h with h | h <;> cases h⟩
theorem duties_own (c : Dev nD) (x : Fin 8 ⊕ Fin 8) : (rd X W).duties (dcell c (.inr x)) 0 = {.inr x} := by
  rw [duties_zero]; ext d
  simp only [Finset.mem_filter, Finset.mem_univ, true_and, Finset.mem_singleton]
  rcases d with b' | y
  · exact ⟨fun h => absurd (csem_inj h) (fun h => by cases h), fun h => by cases h⟩
  · exact ⟨fun h => congrArg Sum.inr (Option.some.inj (csem_inj h)), fun h => by rw [h]⟩

theorem expect_bar (c : Dev nD) (b : Bool) : (rd X W).expect (dcell c (barD b)) 0 = 2 := by
  unfold Schedule.expect Schedule.amountOf
  rw [duties_bar, Finset.sum_insert (by decide), Finset.sum_singleton]; rfl
theorem expect_own (c : Dev nD) (x : Fin 8 ⊕ Fin 8) : (rd X W).expect (dcell c (.inr x)) 0 = amt (.inr x) := by
  unfold Schedule.expect Schedule.amountOf
  rw [duties_own, Finset.sum_singleton]; rfl

/-- All that is paid onto the barrier: both partners' landing places. -/
theorem rest_bar (c : Dev nD) (b : Bool) : bigSep ((rd X W).duties (dcell c (barD b)) 0 \ ∅) (fun d => (rd X W).payload (dcell c (barD b)) 0 d)
    = iprop(landing false (yp c) ∗ landing true (xp c)) := by
  rw [Finset.sdiff_empty, duties_bar, bigSep_insert (by decide), bigSep_singleton]; rfl
/-- All that is paid onto a transfer's semaphore. -/
theorem rest_own (c : Dev nD) (x : Fin 8 ⊕ Fin 8) :
    bigSep ((rd X W).duties (dcell c (.inr x)) 0 \ ∅) (fun d => (rd X W).payload (dcell c (.inr x)) 0 d) = pay X W c (.inr x) := by
  rw [Finset.sdiff_empty, duties_own, bigSep_singleton]; rfl

end

/-! ## What a device owes, and the levels of its waits -/

/-- What device c owes for the duties of a list, the next one to pay first. -/
def owe (c : Dev nD) : List Du → CellTallies nD τ sig Unit
  | [] => 0
  | d :: l => owe c l + tallyAt (dcell (tgt d c) d) () (amt d)

/-- The same units counted where they are received, over the devices' own semaphores. -/
def due (c : Dev nD) : List Du → CellTallies nD τ sig Unit
  | [] => 0
  | d :: l => due c l + tallyAt (dcell c d) () (amt d)

/-- The duties a device pays to its partners, in the order of the program. -/
def owed : List Du := [barD false, barD true, rcvD 0, rcvD 4, rcvD 5, rcvD 1, rcvD 6, rcvD 7, rcvD 2, rcvD 3]

theorem owe_pos {c : Dev nD} {l : List Du} {g : GSem nD τ sig} {u : Unit} (h : 0 < owe c l g u) : ∃ d ∈ l, g = dcell (tgt d c) d := by
  induction l with
  | nil => exact absurd h (Nat.lt_irrefl 0)
  | cons d l ih =>
    rw [owe, Pi.add_apply, Finsupp.add_apply] at h
    rcases Nat.add_pos_iff_pos_or_pos.mp h with h | h
    · obtain ⟨d', hd', e⟩ := ih h
      exact ⟨d', List.mem_cons_of_mem _ hd', e⟩
    · exact ⟨d, List.mem_cons_self, (Pipeline.tallyAt_pos h).1⟩

/-- Summed over the devices, what is owed is what is due. -/
theorem sum_owe (l : List Du) : (∑ c : Dev nD, owe c l) = ∑ c : Dev nD, due c l := by
  induction l with
  | nil => rfl
  | cons d l ih =>
    simp only [owe, due]
    rw [Finset.sum_add_distrib, Finset.sum_add_distrib, ih]
    congr 1
    exact Equiv.sum_comp (tgtE d) (fun c : Dev nD => (tallyAt (dcell c d) () (amt d) : CellTallies nD τ sig Unit))

theorem due_at {c : Dev nD} {l : List Du} {g : GSem nD τ sig} (h : due c l g ≠ 0) : g.1 = (c.tc : Thread nD τ) := by
  induction l with
  | nil => exact absurd rfl h
  | cons d l ih =>
    by_contra hne
    apply h
    rw [due, Pi.add_apply, tallyAt_ne_cell (fun e => hne (congrArg Prod.fst e)), add_zero]
    by_contra h'
    exact hne (ih h')

def L (g : GSem nD τ sig) : Finset Unit := if g.1.2 = .tc then {()} else ∅
/-- The barrier is at level 1, the landings of the first phase at 2, of the second phase at 3, all else at 0. -/
def lvS (s : SemLoc sig) : ℕ := match s with
  | .reg _ => 1
  | .dma q => if q.val = 7 ∨ q.val = 8 ∨ q.val = 15 ∨ q.val = 16 then 2 else if q.val = 9 ∨ q.val = 10 ∨ q.val = 17 ∨ q.val = 18 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- A device may wait at a semaphore below all that it still owes. -/
theorem mayWait (c : Dev nD) (sm : SemLoc sig) (l : List Du) (hl : ∀ d ∈ l, lvS sm < lvS (semOf d)) :
    (levAts L lv : sProp 𝕄) ⊢ MayWait (c : Thread nD τ) sm () (owe c l) :=
  MayOwe.of_cut (L := L) (lev := lv) (lvS sm) (fun p hp => by rw [Finset.mem_singleton.mp hp, L_tc]; exact Finset.mem_singleton_self _)
    (fun g u hg => by obtain ⟨d, -, rfl⟩ := owe_pos hg; exact Finset.mem_singleton_self _)
    (fun p hp => by rw [Finset.mem_singleton.mp hp]; exact le_refl _)
    (fun g u hg => by obtain ⟨d, hd, rfl⟩ := owe_pos hg; exact hl d hd)

end Cert.KernelIdeal.Run

end
-- ==== Proof.KernelIdealRun.Steps.lean ====
/-
  One rule per kind of step that touches a semaphore: a barrier signal, the barrier wait, a transfer, the wait for a
  transfer's departure or landing. Each takes what the step needs of the protocol and returns what it leaves.
-/
module

public import proofs.«01_k».proof.Proof.KernelIdealRun.Protocol

@[expose] public section

noncomputable section

namespace Cert.KernelIdeal.Run

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → Vec F S1024x256 .f32) (W : Dev nD → Vec F S256x1024 .f32)
variable (K : Dev nD × Ck → ℕ)

/-- What is known of all semaphores of all devices: each follows the schedule, and has begun its one round. -/
def records : sProp 𝕄 :=
  iprop((bigSep Finset.univ fun ck : Dev nD × Ck => cellInv ER (rd X W) (K ck) (kcell ck))
    ∗ bigSep Finset.univ fun ck : Dev nD × Ck => reached ER (kcell ck) 0)

instance records_persistent : BI.Persistent (records X W K) := by unfold records; infer_instance

theorem inv_at (c : Dev nD) (d : Du) : records X W K ⊢ cellInv ER (rd X W) (K (c, kOf d)) (dcell c d) := by
  unfold records
  iintro ⟨H, -⟩
  iapply (show (bigSep Finset.univ fun ck : Dev nD × Ck => (cellInv ER (rd X W) (K ck) (kcell ck) : sProp 𝕄)) ⊢ cellInv ER (rd X W) (K (c, kOf d)) (dcell c d)
    from bigSep_elim (Finset.mem_univ (c, kOf d)))
  iexact H

theorem reached_at (c : Dev nD) (d : Du) : records X W K ⊢ reached ER (dcell c d) 0 := by
  unfold records
  iintro ⟨-, H⟩
  iapply (show (bigSep Finset.univ fun ck : Dev nD × Ck => (reached ER (kcell ck) 0 : sProp 𝕄)) ⊢ reached ER (dcell c d) 0
    from bigSep_elim (Finset.mem_univ (c, kOf d)))
  iexact H

/-- Device c owes its partners the duties of the list. -/
def owesE (c : Dev nD) (l : List Du) : sProp 𝕄 := iprop(∃ Ws, owes (c : Thread nD τ) (owe c l) Ws)

/-- What device c needs to pay a duty: the duty's token. -/
def tok (c : Dev nD) (d : Du) : sProp 𝕄 := dutyTok ER (dcell (tgt d c) d) 0 d
/-- What device c needs to wait for a duty paid onto its semaphore: its place in the semaphore's round, -/
def pos (c : Dev nD) (k : Ck) : sProp 𝕄 := atPos ER (kcell (c, k)) 0 ∅ 0
/-- and the credit of the duty's units. -/
def crd (c : Dev nD) (d : Du) : sProp 𝕄 := cred (tallyAt (dcell c d) () (amt d))

variable {Q : PUnit.{1} → sProp (MT nD τ sig Unit (Elt F) ℕ UU ℕ)} {k : PUnit → Prog (TpuEff nD τ sig (Elt F) Λ₀ .tc) PUnit}

/-- A barrier signal to a partner hands it the buffer its transfers fill. -/
theorem wp_signal_bar (b : Bool) (c : Dev nD) (l : List Du) {n : Dev nD} (hn : n = tgt (barD b) c) {k' : ℕ} (hk' : 1 = k') :
    iprop(records X W K ∗ owesE c (barD b :: l) ∗ tok c (barD b) ∗ landing b c)
      ⊢ iprop((owesE c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk'
  unfold owesE tok
  iintro ⟨#HR, ⟨%Ws, HO⟩, Ht, Hl⟩ Hk
  iapply (Rounds.wp_signal 𝒱₀ ER (rd X W) (c : Thread nD τ) none (dst := (tgt (barD b) c : Thread nD τ)) (κ := K (tgt (barD b) c, none)) (W := Ws)
      (d := barD b) (mem_duties X W (tgt (barD b) c) (barD b)) rfl () (owe c l) rfl (hr := by simp only [Topo.routes_tc, Dev.tc])) $$ [HO Ht Hl]
  · isplitr; · iapply (inv_at X W K (tgt (barD b) c) (barD b)); iexact HR
    isplitl [HO]; · iexact HO
    isplitl [Ht]; · iexact Ht
    isplitl [Hl]
    · rw [show (rd X W).payload ((tgt (barD b) c : Thread nD τ), .reg barS) 0 (barD b) = landing b (tgt (barD b) (tgt (barD b) c)) from rfl, tgt_tgt]; iexact Hl
    · iapply (reached_at X W K (tgt (barD b) c) (barD b)); iexact HR
  iintro HO
  iapply Hk
  iexists _; iexact HO

/-- The wait on the barrier for both partners' signals brings the places where device c's transfers land. -/
theorem wp_wait_bar (c : Dev nD) (l : List Du) (hl : ∀ d ∈ l, 1 < lvS (semOf d)) {k' : ℕ} (hk' : 2 = k') :
    iprop(records X W K ∗ levAts L lv ∗ owesE c l ∗ pos c none ∗ crd c (barD false) ∗ crd c (barD true))
      ⊢ iprop(((owesE c l ∗ semVal (kcell (c, none)) 0 ∗ landing false (yp c) ∗ landing true (xp c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  have hc : iprop(crd c (barD false) ∗ crd c (barD true)) ⊢ (cred (tallyAt (dcell c (barD false)) () 2) : sProp 𝕄) := by
    rw [show (2 : ℕ) = 1 + 1 from rfl, ← tallyAt_add]
    exact (cred_add _ _).2
  unfold owesE pos
  iintro ⟨#HR, #Hlev, ⟨%Ws, HO⟩, Hat, Hc⟩ Hk
  ihave Hc := hc $$ Hc
  iapply (Rounds.wp_wait_rest_token 𝒱₀ ER (rd X W) (c : Thread nD τ) none (κ := K (c, none))
      (wpE_semWait_eq 𝒱₀ (c : Thread nD τ) none Set.univ) (Set.mem_univ _) () (O := owe c l) (W := Ws) (R := 0) (m := 0) (T := ∅)
      (expect_bar X W c false).symm) $$ [Hc HO Hat]
  · isplitr; · iapply (inv_at X W K c (barD false)); iexact HR
    isplitl [Hc]; · iexact Hc
    isplitl [HO]; · iexact HO
    isplitr; · iapply (mayWait (F := F) c (.reg barS) l hl); iexact Hlev
    iexact Hat
  iintro ⟨HO, Hat, -, Hpay⟩
  ihave Hp := (show bigSep ((rd X W).duties ((c : Thread nD τ), .reg barS) 0 \ ∅) (fun d => (rd X W).payload ((c : Thread nD τ), .reg barS) 0 d)
    ⊢ iprop(landing false (yp c) ∗ landing true (xp c)) from BIBase.Entails.of_eq (rest_bar X W c false)) $$ Hpay
  imod (Rounds.cell_close ER (rd X W) (Set.mem_univ (K (c, none))) (fun h => h) (R := 0 + 1) (duties_later X W (dcell c (barD false)))) $$ [Hat] with Hz
  · isplitr; · iapply (inv_at X W K c (barD false)); iexact HR
    iexact Hat
  iapply Hk
  isplitl [HO]; · iexists _; iexact HO
  isplitl [Hz]; · iexact Hz
  iexact Hp

/-- The wait for a transfer's departure or landing brings what it hands over; the semaphore is done with, at zero. -/
theorem wp_wait_own (x : Fin 8 ⊕ Fin 8) (c : Dev nD) (l : List Du) (hl : ∀ d ∈ l, lvS (osem x) < lvS (semOf d))
    {s : Shape} {e : EltTy} (dst : Memref sig .tc .vmem s e) {q : DmaSem sig} (hq : SemLoc.dma q = osem x) (hn : dst.view.dmaCredit = amt (.inr x)) :
    iprop(records X W K ∗ levAts L lv ∗ owesE c l ∗ pos c (some x) ∗ crd c (.inr x))
      ⊢ iprop(((owesE c l ∗ semVal (kcell (c, some x)) 0 ∗ pay X W c (.inr x))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma q dst.view.ref s e (.inr dst.hasMemref)) k) Q) := by
  have hw : ∀ P : PUnit.{1} → sProp 𝕄, wpE (defs₀ (F := F)) 𝒱₀ (c : Thread nD τ) none Set.univ (.waitDma q dst.view.ref s e (.inr dst.hasMemref)) P
      = waitSpec (c : Thread nD τ) Set.univ (osem x) (amt (.inr x)) P := fun P => by
    rw [← hq, ← hn]; rfl
  unfold owesE pos crd
  iintro ⟨#HR, #Hlev, ⟨%Ws, HO⟩, Hat, Hc⟩ Hk
  iapply (Rounds.wp_wait_rest_token 𝒱₀ ER (rd X W) (c : Thread nD τ) none (κ := K (c, some x))
      hw (Set.mem_univ _) () (O := owe c l) (W := Ws) (R := 0) (m := 0) (T := ∅)
      ((Nat.zero_add _).trans (expect_own X W c x).symm)) $$ [Hc HO Hat]
  · isplitr; · iapply (inv_at X W K c (.inr x)); iexact HR
    isplitl [Hc]; · iexact Hc
    isplitl [HO]; · iexact HO
    isplitr; · iapply (mayWait (F := F) c (osem x) l hl); iexact Hlev
    iexact Hat
  iintro ⟨HO, Hat, -, Hpay⟩
  ihave Hp := (show bigSep ((rd X W).duties ((c : Thread nD τ), osem x) 0 \ ∅) (fun d => (rd X W).payload ((c : Thread nD τ), osem x) 0 d)
    ⊢ pay X W c (.inr x) from BIBase.Entails.of_eq (rest_own X W c x)) $$ Hpay
  imod (Rounds.cell_close ER (rd X W) (Set.mem_univ (K (c, some x))) (fun h => h) (R := 0 + 1) (duties_later X W (dcell c (.inr x)))) $$ [Hat] with Hz
  · isplitr; · iapply (inv_at X W K c (.inr x)); iexact HR
    iexact Hat
  iapply Hk
  isplitl [HO]; · iexists _; iexact HO
  isplitl [Hz]; · iexact Hz
  iexact Hp

/-- A transfer between two squeezed pieces: the sender's piece at its contents and the receiver's piece at any contents
    go in; the credit of the departure comes out. -/
theorem wp_xfer (t : Fin 8) (c : Dev nD) (l : List Du) {n : Dev nD} (hn : n = peer t c)
    {mD : Memref sig .tc .vmem S3x256x512 .bf16} {offS offD size : Fin 3 → ℕ}
    {inbS : ∀ a, offS a + size a ≤ S6x256x512.size a} {inbD : ∀ a, offD a + size a ≤ S3x256x512.size a} {s' : Shape}
    {hS hD : (⟨3, size⟩ : Shape).Squeezes s'}
    {Y : (⟨3, size⟩ : Shape).Idx → Elt F .bf16}
    (hps : owns (c : Thread nD τ) (sM.slice (Rect.unit (s := S6x256x512) offS size inbS) (fun _ => rfl)) fullShare Y ⊢ (pay X W c (sndD t) : sProp 𝕄))
    (hpd : owns (peer t c : Thread nD τ) (mD.slice (Rect.unit (s := S3x256x512) offD size inbD) (fun _ => rfl)) fullShare Y ⊢ (pay X W (peer t c) (rcvD t) : sProp 𝕄))
    {qS qR : DmaSem sig} (hqS : qS = sndQ t) (hqR : qR = rcvQ t)
    (hN : ((mD.slice (Rect.unit (s := S3x256x512) offD size inbD) (fun _ => rfl)).squeeze s' hD).view.dmaCredit = amt (rcvD t))
    {hsc : ((mD.slice (Rect.unit (s := S3x256x512) offD size inbD) (fun _ => rfl)).squeeze s' hD : Memref sig (Dev.tc n : Thread nD τ).2.kind .vmem s' .bf16).view.ref.isScScratch = false}
    {hsrc : ((sM.slice (Rect.unit (s := S6x256x512) offS size inbS) (fun _ => rfl)).squeeze s' hS).view.WordExact}
    {hdst : ((mD.slice (Rect.unit (s := S3x256x512) offD size inbD) (fun _ => rfl)).squeeze s' hD).view.WordExact}
    {hsem : DmaTarget.Typed .vmem (.dma qR) (.remote (Dev.tc n : Thread nD τ) ((mD.slice (Rect.unit (s := S3x256x512) offD size inbD) (fun _ => rfl)).squeeze s' hD) (.dma qS) hsc)} :
    iprop(records X W K ∗ owns (c : Thread nD τ) (sM.slice (Rect.unit (s := S6x256x512) offS size inbS) (fun _ => rfl)) fullShare Y
        ∗ (∃ Z, owns (peer t c : Thread nD τ) (mD.slice (Rect.unit (s := S3x256x512) offD size inbD) (fun _ => rfl)) fullShare Z)
        ∗ owesE c (rcvD t :: l) ∗ tok c (sndD t) ∗ tok c (rcvD t))
      ⊢ iprop(((crd c (sndD t) ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((sM.slice (Rect.unit (s := S6x256x512) offS size inbS) (fun _ => rfl)).squeeze s' hS)
                (.remote (Dev.tc n : Thread nD τ) ((mD.slice (Rect.unit (s := S3x256x512) offD size inbD) (fun _ => rfl)).squeeze s' hD) (.dma qS) hsc) (.dma qR) hsrc hdst hsem) k) Q) := by
  subst hn hqS hqR
  unfold owesE tok crd
  iintro ⟨#HR, HS, ⟨%Z, HD⟩, ⟨%Ws, HO⟩, Hts, Htr⟩ Hk
  unfold owns
  icases HS with ⟨%fs, %hfs, HS⟩
  icases HD with ⟨%fd, %hfd, HD⟩
  iapply (Rounds.wp_send_pointsTo 𝒱₀ ER (rd X W) (c : Thread nD τ) none (κ₁ := K (c, kOf (sndD t))) (κ₂ := K (peer t c, kOf (rcvD t)))
    (c' := (peer t c : Thread nD τ))
    (src := (sM.slice (Rect.unit (s := S6x256x512) offS size inbS) (fun _ => rfl)).squeeze s' hS)
    (dst := (mD.slice (Rect.unit (s := S3x256x512) offD size inbD) (fun _ => rfl)).squeeze s' hD)
    (sS := .dma (sndQ t)) (sem := .dma (rcvQ t)) (q := fullShare) (fs := fs)
    (r₁ := 0) (r₂ := 0) (d₁ := sndD t) (d₂ := rcvD t) (fd := fd)
    (mem_duties X W c (sndD t)) (mem_duties X W (peer t c) (rcvD t))
    () () (amt (rcvD t)) hN rfl rfl (owe c l) rfl (W := Ws)
    (by
      refine BIBase.Entails.trans ?_ hps
      unfold owns
      iintro H
      iexists fs
      isplitr; · ipureintro; exact hfs
      rw [← View.set_reshape (v := (sM.slice (Rect.unit (s := S6x256x512) offS size inbS) (fun _ => rfl)).view) hS.numel_eq]
      iexact H)
    (by
      refine BIBase.Entails.trans ?_ hpd
      unfold owns
      iintro H
      iexists _
      isplitr
      · ipureintro
        exact (read_landed (Val := Elt F) (mD.slice (Rect.unit (s := S3x256x512) offD size inbD) (fun _ => rfl)).view
          (sM.slice (Rect.unit (s := S6x256x512) offS size inbS) (fun _ => rfl)).view hD.numel_eq hS.numel_eq fd fs).trans hfs
      rw [← View.set_reshape (v := (mD.slice (Rect.unit (s := S3x256x512) offD size inbD) (fun _ => rfl)).view) hD.numel_eq]
      iexact H)) $$ [HS HD HO Hts Htr]
  · isplitr; · iapply (inv_at X W K c (sndD t)); iexact HR
    isplitr; · iapply (inv_at X W K (peer t c) (rcvD t)); iexact HR
    isplitl [HS]
    · rw [← View.set_reshape (v := (sM.slice (Rect.unit (s := S6x256x512) offS size inbS) (fun _ => rfl)).view) hS.numel_eq]
      iexact HS
    isplitl [HD]
    · rw [← View.set_reshape (v := (mD.slice (Rect.unit (s := S3x256x512) offD size inbD) (fun _ => rfl)).view) hD.numel_eq]
      iexact HD
    isplitl [HO]; · iexact HO
    isplitl [Hts]; · iexact Hts
    isplitr; · iapply (reached_at X W K c (sndD t)); iexact HR
    isplitl [Htr]; · iexact Htr
    iapply (reached_at X W K (peer t c) (rcvD t)); iexact HR
  iintro ⟨Hc, HO⟩
  iapply Hk
  isplitl [Hc]; · iexact Hc
  iexists _; iexact HO

end Cert.KernelIdeal.Run

end
-- ==== Proof.KernelIdealRun.Part1.lean ====
/-
  The first two stretches of the body: the signals to both partners, the wait for theirs, the two half products for the
  diagonal device, and the first transfer.
-/
module

public import proofs.«01_k».proof.Proof.KernelIdealRun.Steps

@[expose] public section

noncomputable section

namespace Cert.KernelIdeal.Run

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The pieces the program works on -/

/-- The parts of the program, given the buffers and semaphores of the launch. -/
abbrev onBufs {β : Type 1} (f : (arg0 : Memref sig .tc .vmem S1024x256 .f32) → arg0.IsWhole → (arg1 : Memref sig .tc .vmem S256x1024 .f32) → arg1.IsWhole →
    (arg2 : Memref sig .tc .vmem S256x1024 .f32) → arg2.IsWhole → (arg3 : Memref sig .tc .vmem S1024x1024 .f32) → arg3.IsWhole →
    (arg4 : Memref sig .tc .vmem S6x256x512 .bf16) → arg4.IsWhole → (arg5 : Memref sig .tc .vmem S3x256x512 .bf16) → arg5.IsWhole →
    (arg6 : Memref sig .tc .vmem S3x256x512 .bf16) → arg6.IsWhole → DmaSems sig S4 → DmaSems sig S4 → DmaSems sig S4 → DmaSems sig S4 → β) : β :=
  f xM (Memref.isWhole_whole _) wM (Memref.isWhole_whole _) oM (Memref.isWhole_whole _) yM (Memref.isWhole_whole _) sM (Memref.isWhole_whole _)
    aM (Memref.isWhole_whole _) bM (Memref.isWhole_whole _) cc0_scratch4 cc0_scratch5 cc0_scratch6 cc0_scratch7

/-- Device c owns a rectangle of one of its buffers at contents V. -/
abbrev piece {s : Shape} {e : EltTy} (m : Memref sig .tc .vmem s e) (off size : Fin s.rank → ℕ) (inb : ∀ a, off a + size a ≤ s.size a) (c : Dev nD)
    (V : (⟨s.rank, size⟩ : Shape).Idx → Elt F e) : sProp 𝕄 :=
  owns (c : Thread nD τ) (m.slice (Rect.unit off size inb) (fun _ => rfl)) fullShare V

/-- The arguments. -/
abbrev xAll (c : Dev nD) (V : Vec F S1024x256 .f32) : sProp 𝕄 := owns (c : Thread nD τ) xM fullShare V
abbrev wAll (c : Dev nD) (V : Vec F S256x1024 .f32) : sProp 𝕄 := owns (c : Thread nD τ) wM fullShare V
/-- The five pieces of the product buffer. -/
abbrev yDR (c : Dev nD) (V : Vec F S256x512 .f32) : sProp 𝕄 := piece yM (k0_off2 c) S256x512.size (k0_off2_inb c) c V
abbrev yDL (c : Dev nD) (V : Vec F S256x512 .f32) : sProp 𝕄 := piece yM (k0_off3 c) S256x512.size (k0_off3_inb c) c V
abbrev yYp (c : Dev nD) (V : Vec F S256x1024 .f32) : sProp 𝕄 := piece yM (k0_off5 c) S256x1024.size (k0_off5_inb c) c V
abbrev yXp (c : Dev nD) (V : Vec F S256x1024 .f32) : sProp 𝕄 := piece yM (k0_off8 c) S256x1024.size (k0_off8_inb c) c V
abbrev yOwn (c : Dev nD) (V : Vec F S256x1024 .f32) : sProp 𝕄 := piece yM (k0_off11 c) S256x1024.size (k0_off11_inb c) c V
/-- The six slots sent from. -/
theorem inb_slot (n : Fin 6) : ∀ a, (![n.val, 0, 0] : Fin 3 → ℕ) a + S1x256x512.size a ≤ S6x256x512.size a := by revert n; decide
abbrev sFull (n : Fin 6) (c : Dev nD) (V : Vec F S1x256x512 .bf16) : sProp 𝕄 := piece sM ![n.val, 0, 0] S1x256x512.size (inb_slot n) c V

variable (X : Dev nD → Vec F S1024x256 .f32) (W : Dev nD → Vec F S256x1024 .f32)
variable (K : Dev nD × Ck → ℕ)

/-- Device c runs a program to the postcondition Q. -/
abbrev runs (c : Dev nD) (p : Prog (TpuEff nD τ sig (Elt F) Λ₀ .tc) PUnit.{1}) (Q : PUnit.{1} → sProp (MT nD τ sig Unit (Elt F) ℕ UU ℕ)) : sProp 𝕄 :=
  wp frame (wpE (defs₀ (F := F)) 𝒱₀ (c : Thread nD τ) none) Set.univ p Q

theorem dev1_yp (c : Dev nD) : (⟨k0_dev1 c, k0_dev1_lt c⟩ : Dev nD) = tgt (barD false) c := by revert c; decide +kernel
theorem dev2_xp (c : Dev nD) : (⟨k0_dev2 c, k0_dev2_lt c⟩ : Dev nD) = tgt (barD true) c := by revert c; decide +kernel

/-- Signals to both partners; the right half of the diagonal device's product, into slot 0. -/
theorem part1 (c : Dev nD) {Q : PUnit.{1} → sProp (MT nD τ sig Unit (Elt F) ℕ UU ℕ)}
    (k : (Σ' (d0 : Dev nD) (v2 : BitVec 32) (v3 : BitVec 32) (v4 : BitVec 32) (v6 : BitVec 32), Sems sig S_) → Prog (TpuEff nD τ sig (Elt F) Λ₀ .tc) PUnit) :
    iprop(records X W K ∗ owesE c owed ∗ tok c (barD false) ∗ tok c (barD true) ∗ landing false c ∗ landing true c ∗ xAll c (X c) ∗ wAll c (W c)
        ∗ (∃ V, yDR c V) ∗ (∃ V, sFull 0 c V))
      ⊢ iprop((∀ v2 v3 v4 v6, (owesE c (owed.drop 2) ∗ xAll c (X c) ∗ wAll c (W c) ∗ yDR c (prodDR X W c) ∗ sFull 0 c (sentDR X W c))
            -∗ runs c (k ⟨c, v2, v3, v4, v6, SemArray.scalar (sig.barrier 0 rfl)⟩) Q)
          -∗ runs c (onBufs (k0_part1 (F := F)) >>= k) Q) := by
  rw [k0_part1_eq_skeleton]
  unfold k0_part1_skel
  simp only [runs, semSignalWord, Prog.lift, Prog.bind_op, Prog.bind_ret, Prog.pure_eq_ret, wp_deviceId]
  iintro ⟨#HR, HO, Ht0, Ht1, Hl0, Hl1, Hx, Hw, ⟨%V1, Hy⟩, ⟨%V2, Hs⟩⟩ Hk
  iapply (wp_signal_bar X W K false c _ (dev1_yp c) rfl) $$ [HO Ht0 Hl0]
  · isplitr; · iexact HR
    isplitl [HO]; · iexact HO
    isplitl [Ht0]; · iexact Ht0
    iexact Hl0
  iintro HO
  iapply (wp_signal_bar X W K true c _ (dev2_xp c) rfl) $$ [HO Ht1 Hl1]
  · isplitr; · iexact HR
    isplitl [HO]; · iexact HO
    isplitl [Ht1]; · iexact Ht1
    iexact Hl1
  iintro HO
  iapply (wp_load_of_all 𝒱₀ (c : Thread nD τ) none Set.univ) $$ Hx
  iintro Hx
  iapply (wp_load_of_all 𝒱₀ (c : Thread nD τ) none Set.univ) $$ Hw
  iintro Hw
  iapply (wp_load_piece 𝒱₀ (c : Thread nD τ) none Set.univ) $$ Hy
  iintro Hy
  iapply (wp_store_piece 𝒱₀ (c : Thread nD τ) none Set.univ) $$ Hy
  iintro Hy
  iapply (wp_load_piece 𝒱₀ (c : Thread nD τ) none Set.univ) $$ Hy
  iintro Hy
  iapply (wp_load_piece 𝒱₀ (c : Thread nD τ) none Set.univ) $$ Hs
  iintro Hs
  iapply (wp_store_piece 𝒱₀ (c : Thread nD τ) none Set.univ) $$ Hs
  iintro Hs
  iapply Hk
  isplitl [HO]; · iexact HO
  isplitl [Hx]; · iexact Hx
  isplitl [Hw]; · iexact Hw
  isplitl [Hy]; · iexact Hy
  iexact Hs

/-- What a device sends is what its partner is handed on the landing. -/
theorem pay_rcv (t : Fin 8) (c : Dev nD) : dSlot t (peer t c) (cont X W t c) ⊢ (pay X W (peer t c) (rcvD t) : sProp 𝕄) := by
  show dSlot t (peer t c) (cont X W t c) ⊢ dSlot t (peer t c) (cont X W t (peer t (peer t c)))
  rw [peer_peer]

theorem dev3_xp (c : Dev nD) : (⟨k0_dev3 c, k0_dev3_lt c⟩ : Dev nD) = peer 0 c := by revert c; decide +kernel

/-- The wait for both partners' signals; slot 0 to `xp`; the left half of the diagonal device's product, into slot 2. -/
theorem part2 (c : Dev nD) (v4 v6 : BitVec 32) {Q : PUnit.{1} → sProp (MT nD τ sig Unit (Elt F) ℕ UU ℕ)}
    (k : PUnit → Prog (TpuEff nD τ sig (Elt F) Λ₀ .tc) PUnit) :
    iprop(records X W K ∗ levAts L lv ∗ owesE c (owed.drop 2) ∗ pos c none ∗ crd c (barD false) ∗ crd c (barD true)
        ∗ tok c (sndD 0) ∗ tok c (rcvD 0) ∗ xAll c (X c) ∗ wAll c (W c) ∗ sFull 0 c (sentDR X W c) ∗ (∃ V, yDL c V) ∗ (∃ V, sFull 2 c V))
      ⊢ iprop(((owesE c (owed.drop 3) ∗ semVal (kcell (c, none)) 0 ∗ crd c (sndD 0) ∗ landing false (yp c)
              ∗ (∃ Y, dSlot 1 (xp c) Y) ∗ (∃ Y, dSlot 2 (xp c) Y) ∗ (∃ Y, dSlot 3 (xp c) Y)
              ∗ xAll c (X c) ∗ wAll c (W c) ∗ yDL c (prodDL X W c) ∗ sFull 2 c (sentDL X W c))
            -∗ runs c (k ⟨⟩) Q)
          -∗ runs c (onBufs (k0_part2 (F := F)) c v4 v6 (SemArray.scalar (sig.barrier 0 rfl)) >>= k) Q) := by
  rw [k0_part2_eq_skeleton]
  unfold k0_part2_skel
  simp only [runs, semWaitWord, Prog.lift, Prog.bind_op, Prog.bind_ret, Prog.pure_eq_ret]
  iintro ⟨#HR, #HL, HO, Hp, Hc0, Hc1, Hts, Htr, Hx, Hw, Hs0, ⟨%V1, Hy⟩, ⟨%V2, Hs⟩⟩ Hk
  iapply (wp_wait_bar X W K c (owed.drop 2) (by decide) rfl) $$ [HO Hp Hc0 Hc1]
  · isplitr; · iexact HR
    isplitr; · iexact HL
    isplitl [HO]; · iexact HO
    isplitl [Hp]; · iexact Hp
    isplitl [Hc0]; · iexact Hc0
    iexact Hc1
  iintro ⟨HO, Hz, Hly, Hlx⟩
  ihave Hlx := (show landing true (xp c) ⊢ iprop((∃ Y, dSlot (F := F) 0 (xp c) Y) ∗ (∃ Y, dSlot 1 (xp c) Y) ∗ (∃ Y, dSlot 2 (xp c) Y) ∗ (∃ Y, dSlot 3 (xp c) Y)) from .rfl) $$ Hlx
  icases Hlx with ⟨Hl0, Hl1, Hl2, Hl3⟩
  iapply (wp_xfer X W K 0 c (owed.drop 3) (dev3_xp c) (mD := aM) (offS := ![0, 0, 0]) (offD := ![0, 0, 0]) (size := S1x256x512.size) (Y := cont X W 0 c)
    (inbS := inb_S6x256x512_S1x256x512_0_0_0) (inbD := inb_S3x256x512_S1x256x512_0_0_0) (hS := squeezes_S1x256x512_S256x512) (hD := squeezes_S1x256x512_S256x512)
    .rfl (pay_rcv X W 0 c) rfl rfl rfl) $$ [HO Hs0 Hl0 Hts Htr]
  · isplitr; · iexact HR
    isplitl [Hs0]; · iexact Hs0
    isplitl [Hl0]; · iexact Hl0
    isplitl [HO]; · iexact HO
    isplitl [Hts]; · iexact Hts
    iexact Htr
  iintro ⟨Hcs, HO⟩
  iapply (wp_load_of_all 𝒱₀ (c : Thread nD τ) none Set.univ) $$ Hx
  iintro Hx
  iapply (wp_load_of_all 𝒱₀ (c : Thread nD τ) none Set.univ) $$ Hw
  iintro Hw
  iapply (wp_load_piece 𝒱₀ (c : Thread nD τ) none Set.univ) $$ Hy
  iintro Hy
  iapply (wp_store_piece 𝒱₀ (c : Thread nD τ) none Set.univ) $$ Hy
  iintro Hy
  iapply (wp_load_piece 𝒱₀ (c : Thread nD τ) none Set.univ) $$ Hy
  iintro Hy
  iapply (wp_load_piece 𝒱₀ (c : Thread nD τ) none Set.univ) $$ Hs
  iintro Hs
  iapply (wp_store_piece 𝒱₀ (c : Thread nD τ) none Set.univ) $$ Hs
  iintro Hs
  iapply Hk
  isplitl [HO]; · iexact HO
  isplitl [Hz]; · iexact Hz
  isplitl [Hcs]; · iexact Hcs
  isplitl [Hly]; · iexact Hly
  isplitl [Hl1]; · iexact Hl1
  isplitl [Hl2]; · iexact Hl2
  isplitl [Hl3]; · iexact Hl3
  isplitl [Hx]; · iexact Hx
  isplitl [Hw]; · iexact Hw
  isplitl [Hy]; · iexact Hy
  iexact Hs

end Cert.KernelIdeal.Run

end
-- ==== Proof.KernelIdealRun.Part2.lean ====
/-
  The next three stretches of the body: the products for the two partners and for the device itself, the other transfers
  of the first phase, and the first sum with what a partner sent.
-/
module

public import proofs.«01_k».proof.Proof.KernelIdealRun.Part1

@[expose] public section

noncomputable section

namespace Cert.KernelIdeal.Run

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x256 .f32) (W : Dev nD → Vec F S256x1024 .f32)
variable (K : Dev nD × Ck → ℕ)

theorem dev4_peer (c : Dev nD) : (⟨k0_dev4 c, k0_dev4_lt c⟩ : Dev nD) = peer 4 c := by revert c; decide +kernel
theorem dev5_peer (c : Dev nD) : (⟨k0_dev5 c, k0_dev5_lt c⟩ : Dev nD) = peer 5 c := by revert c; decide +kernel
theorem dev6_peer (c : Dev nD) : (⟨k0_dev6 c, k0_dev6_lt c⟩ : Dev nD) = peer 1 c := by revert c; decide +kernel
theorem dev7_peer (c : Dev nD) : (⟨k0_dev7 c, k0_dev7_lt c⟩ : Dev nD) = peer 6 c := by revert c; decide +kernel
theorem dev8_peer (c : Dev nD) : (⟨k0_dev8 c, k0_dev8_lt c⟩ : Dev nD) = peer 7 c := by revert c; decide +kernel
theorem dev9_peer (c : Dev nD) : (⟨k0_dev9 c, k0_dev9_lt c⟩ : Dev nD) = peer 2 c := by revert c; decide +kernel
theorem dev10_peer (c : Dev nD) : (⟨k0_dev10 c, k0_dev10_lt c⟩ : Dev nD) = peer 3 c := by revert c; decide +kernel

/-- The halves of a product's columns as the program addresses them. -/
theorem off6_left (c : Dev nD) : ∀ a, k0_off6 c a = k0_off5 c a + (![0, 0] : Fin 2 → ℕ) a := by revert c; decide +kernel
theorem off12_right (c : Dev nD) : ∀ a, k0_off12 c a = k0_off5 c a + (![0, 512] : Fin 2 → ℕ) a := by revert c; decide +kernel
theorem off9_right (c : Dev nD) : ∀ a, k0_off9 c a = k0_off8 c a + (![0, 512] : Fin 2 → ℕ) a := by revert c; decide +kernel
theorem off13_left (c : Dev nD) : ∀ a, k0_off13 c a = k0_off8 c a + (![0, 0] : Fin 2 → ℕ) a := by revert c; decide +kernel

/-- Slot 2 to `yp`; the product of `yp`'s rows, its left half into slot 3. -/
theorem part3 (c : Dev nD) (v3 : BitVec 32) {Q : PUnit.{1} → sProp (MT nD τ sig Unit (Elt F) ℕ UU ℕ)} (k : PUnit → Prog (TpuEff nD τ sig (Elt F) Λ₀ .tc) PUnit) :
    iprop(records X W K ∗ owesE c (owed.drop 3) ∗ sFull 2 c (sentDL X W c) ∗ (∃ Y, dSlot 4 (yp c) Y) ∗ tok c (sndD 4) ∗ tok c (rcvD 4) ∗ xAll c (X c) ∗ wAll c (W c) ∗ (∃ V, yYp c V) ∗ (∃ V, sFull 3 c V))
      ⊢ iprop(((owesE c (owed.drop 4) ∗ crd c (sndD 4) ∗ xAll c (X c) ∗ wAll c (W c) ∗ yYp c (prodYp X W c) ∗ sFull 3 c (sentYp X W c))
            -∗ runs c (k ⟨⟩) Q)
          -∗ runs c (onBufs (k0_part3 (F := F)) c v3 >>= k) Q) := by
  rw [k0_part3_eq_skeleton]
  unfold k0_part3_skel
  simp only [runs, Prog.lift, Prog.bind_op, Prog.bind_ret, Prog.pure_eq_ret]
  iintro ⟨#HR, HO, Hs2, Hd, Hts, Htr, Hx, Hw, ⟨%V1, Hy⟩, ⟨%V2, Hs⟩⟩ Hk
  iapply (wp_xfer X W K 4 c (owed.drop 4) (dev4_peer c) (mD := bM) (offS := ![2, 0, 0]) (offD := ![0, 0, 0]) (size := S1x256x512.size)
    (Y := cont X W 4 c) (inbS := inb_S6x256x512_S1x256x512_2_0_0) (inbD := inb_S3x256x512_S1x256x512_0_0_0)
    (hS := squeezes_S1x256x512_S256x512) (hD := squeezes_S1x256x512_S256x512) .rfl (pay_rcv X W 4 c) rfl rfl rfl) $$ [Hs2 Hd HO Hts Htr]
  · isplitr; · iexact HR
    isplitl [Hs2]; · iexact Hs2
    isplitl [Hd]; · iexact Hd
    isplitl [HO]; · iexact HO
    isplitl [Hts]; · iexact Hts
    iexact Htr
  iintro ⟨Hcs4, HO⟩
  iapply (wp_load_of_all 𝒱₀ (c : Thread nD τ) none Set.univ) $$ Hx
  iintro Hx
  iapply (wp_load_of_all 𝒱₀ (c : Thread nD τ) none Set.univ) $$ Hw
  iintro Hw
  rw [part_self (W c) _ (by decide)]
  iapply (wp_load_piece 𝒱₀ (c : Thread nD τ) none Set.univ) $$ Hy
  iintro Hy
  iapply (wp_store_piece 𝒱₀ (c : Thread nD τ) none Set.univ) $$ Hy
  iintro Hy
  iapply (wp_load_part 𝒱₀ (c : Thread nD τ) none Set.univ (o := ![0, 0]) inb_L (off6_left c)) $$ Hy
  iintro Hy
  iapply (wp_load_piece 𝒱₀ (c : Thread nD τ) none Set.univ) $$ Hs
  iintro Hs
  iapply (wp_store_piece 𝒱₀ (c : Thread nD τ) none Set.univ) $$ Hs
  iintro Hs
  iapply Hk
  isplitl [HO]; · iexact HO
  isplitl [Hcs4]; · iexact Hcs4
  isplitl [Hx]; · iexact Hx
  isplitl [Hw]; · iexact Hw
  isplitl [Hy]; · iexact Hy
  iexact Hs

/-- Slot 3 to `yp`; the product of `xp`'s rows, its right half into slot 1. -/
theorem part4 (c : Dev nD) (v4 : BitVec 32) {Q : PUnit.{1} → sProp (MT nD τ sig Unit (Elt F) ℕ UU ℕ)} (k : PUnit → Prog (TpuEff nD τ sig (Elt F) Λ₀ .tc) PUnit) :
    iprop(records X W K ∗ owesE c (owed.drop 4) ∗ sFull 3 c (sentYp X W c) ∗ (∃ Y, dSlot 5 (yp c) Y) ∗ tok c (sndD 5) ∗ tok c (rcvD 5) ∗ xAll c (X c) ∗ wAll c (W c) ∗ (∃ V, yXp c V) ∗ (∃ V, sFull 1 c V))
      ⊢ iprop(((owesE c (owed.drop 5) ∗ crd c (sndD 5) ∗ xAll c (X c) ∗ wAll c (W c) ∗ yXp c (prodXp X W c) ∗ sFull 1 c (sentXp X W c))
            -∗ runs c (k ⟨⟩) Q)
          -∗ runs c (onBufs (k0_part4 (F := F)) c v4 >>= k) Q) := by
  rw [k0_part4_eq_skeleton]
  unfold k0_part4_skel
  simp only [runs, Prog.lift, Prog.bind_op, Prog.bind_ret, Prog.pure_eq_ret]
  iintro ⟨#HR, HO, Hs2, Hd, Hts, Htr, Hx, Hw, ⟨%V1, Hy⟩, ⟨%V2, Hs⟩⟩ Hk
  iapply (wp_xfer X W K 5 c (owed.drop 5) (dev5_peer c) (mD := bM) (offS := ![3, 0, 0]) (offD := ![1, 0, 0]) (size := S1x256x512.size)
    (Y := cont X W 5 c) (inbS := inb_S6x256x512_S1x256x512_3_0_0) (inbD := inb_S3x256x512_S1x256x512_1_0_0)
    (hS := squeezes_S1x256x512_S256x512) (hD := squeezes_S1x256x512_S256x512) .rfl (pay_rcv X W 5 c) rfl rfl rfl) $$ [Hs2 Hd HO Hts Htr]
  · isplitr; · iexact HR
    isplitl [Hs2]; · iexact Hs2
    isplitl [Hd]; · iexact Hd
    isplitl [HO]; · iexact HO
    isplitl [Hts]; · iexact Hts
    iexact Htr
  iintro ⟨Hcs5, HO⟩
  iapply (wp_load_of_all 𝒱₀ (c : Thread nD τ) none Set.univ) $$ Hx
  iintro Hx
  iapply (wp_load_of_all 𝒱₀ (c : Thread nD τ) none Set.univ) $$ Hw
  iintro Hw
  rw [part_self (W c) _ (by decide)]
  iapply (wp_load_piece 𝒱₀ (c : Thread nD τ) none Set.univ) $$ Hy
  iintro Hy
  iapply (wp_store_piece 𝒱₀ (c : Thread nD τ) none Set.univ) $$ Hy
  iintro Hy
  iapply (wp_load_part 𝒱₀ (c : Thread nD τ) none Set.univ (o := ![0, 512]) inb_R (off9_right c)) $$ Hy
  iintro Hy
  iapply (wp_load_piece 𝒱₀ (c : Thread nD τ) none Set.univ) $$ Hs
  iintro Hs
  iapply (wp_store_piece 𝒱₀ (c : Thread nD τ) none Set.univ) $$ Hs
  iintro Hs
  iapply Hk
  isplitl [HO]; · iexact HO
  isplitl [Hcs5]; · iexact Hcs5
  isplitl [Hx]; · iexact Hx
  isplitl [Hw]; · iexact Hw
  isplitl [Hy]; · iexact Hy
  iexact Hs

/-- Slot 1 to `xp`; the product of the device's own rows; `xp`'s part for `yp` arrives and is added to the device's own. -/
theorem part5 (c : Dev nD) (v2 v3 v4 : BitVec 32) {Q : PUnit.{1} → sProp (MT nD τ sig Unit (Elt F) ℕ UU ℕ)} (k : FVec F S256x512 .bf16 → Prog (TpuEff nD τ sig (Elt F) Λ₀ .tc) PUnit) :
    iprop(records X W K ∗ levAts L lv ∗ owesE c (owed.drop 5) ∗ sFull 1 c (sentXp X W c) ∗ (∃ Y, dSlot 1 (xp c) Y) ∗ tok c (sndD 1) ∗ tok c (rcvD 1) ∗ xAll c (X c) ∗ wAll c (W c) ∗ (∃ V, yOwn c V) ∗ pos c (some (.inr 0)) ∗ crd c (rcvD 0) ∗ yYp c (prodYp X W c))
      ⊢ iprop(((owesE c (owed.drop 6) ∗ crd c (sndD 1) ∗ xAll c (X c) ∗ wAll c (W c) ∗ yOwn c (prodOwn X W c) ∗ semVal (kcell (c, some (.inr 0))) 0 ∗ piece aM ![0, 0, 0] S1x256x512.size inb_S3x256x512_S1x256x512_0_0_0 c (sentDR X W (xp c)) ∗ yYp c (prodYp X W c))
            -∗ runs c (k (k0_pay10 (sentDR X W (xp c)) (halfR (prodYp X W c)))) Q)
          -∗ runs c (onBufs (k0_part5 (F := F)) c v2 v3 v4 >>= k) Q) := by
  rw [k0_part5_eq_skeleton]
  unfold k0_part5_skel
  simp only [runs, Prog.lift, Prog.bind_op, Prog.bind_ret, Prog.pure_eq_ret]
  iintro ⟨#HR, #HL, HO, Hs1, Hd, Hts, Htr, Hx, Hw, ⟨%V1, Hy⟩, Hprcv0, Hcrcv0, Hyp⟩ Hk
  iapply (wp_xfer X W K 1 c (owed.drop 6) (dev6_peer c) (mD := aM) (offS := ![1, 0, 0]) (offD := ![1, 0, 0]) (size := S1x256x512.size)
    (Y := cont X W 1 c) (inbS := inb_S6x256x512_S1x256x512_1_0_0) (inbD := inb_S3x256x512_S1x256x512_1_0_0)
    (hS := squeezes_S1x256x512_S256x512) (hD := squeezes_S1x256x512_S256x512) .rfl (pay_rcv X W 1 c) rfl rfl rfl) $$ [Hs1 Hd HO Hts Htr]
  · isplitr; · iexact HR
    isplitl [Hs1]; · iexact Hs1
    isplitl [Hd]; · iexact Hd
    isplitl [HO]; · iexact HO
    isplitl [Hts]; · iexact Hts
    iexact Htr
  iintro ⟨Hcs1, HO⟩
  iapply (wp_load_of_all 𝒱₀ (c : Thread nD τ) none Set.univ) $$ Hx
  iintro Hx
  iapply (wp_load_of_all 𝒱₀ (c : Thread nD τ) none Set.univ) $$ Hw
  iintro Hw
  rw [part_self (W c) _ (by decide)]
  iapply (wp_load_piece 𝒱₀ (c : Thread nD τ) none Set.univ) $$ Hy
  iintro Hy
  iapply (wp_store_piece 𝒱₀ (c : Thread nD τ) none Set.univ) $$ Hy
  iintro Hy
  iapply (wp_wait_own X W K (.inr 0) c (owed.drop 6) (by decide)
    ((aM.slice (Rect.unit (s := S3x256x512) ![0, 0, 0] S1x256x512.size inb_S3x256x512_S1x256x512_0_0_0) (fun _ => rfl)).squeeze S256x512 squeezes_S1x256x512_S256x512) rfl rfl) $$ [HO Hprcv0 Hcrcv0]
  · isplitr; · iexact HR
    isplitr; · iexact HL
    isplitl [HO]; · iexact HO
    isplitl [Hprcv0]; · iexact Hprcv0
    iexact Hcrcv0
  iintro ⟨HO, Hzrcv0, Hg⟩
  ihave Hg := (show pay X W c (rcvD 0) ⊢ piece aM ![0, 0, 0] S1x256x512.size inb_S3x256x512_S1x256x512_0_0_0 c (sentDR X W (xp c)) from .rfl) $$ Hg
  iapply (wp_load_piece 𝒱₀ (c : Thread nD τ) none Set.univ) $$ Hg
  iintro Hg
  iapply (wp_load_part 𝒱₀ (c : Thread nD τ) none Set.univ (o := ![0, 512]) inb_R (off12_right c)) $$ Hyp
  iintro Hyp
  iapply Hk
  isplitl [HO]; · iexact HO
  isplitl [Hcs1]; · iexact Hcs1
  isplitl [Hx]; · iexact Hx
  isplitl [Hw]; · iexact Hw
  isplitl [Hy]; · iexact Hy
  isplitl [Hzrcv0]; · iexact Hzrcv0
  isplitl [Hg]; · iexact Hg
  iexact Hyp

end Cert.KernelIdeal.Run

end
-- ==== Proof.KernelIdealRun.Part3.lean ====
/-
  The rest of the body: the transfers of the second phase, half a slot each, the four quarters of the result, and the waits
  for the departures of all transfers.
-/
module

public import proofs.«01_k».proof.Proof.KernelIdealRun.Part2

@[expose] public section

noncomputable section

namespace Cert.KernelIdeal.Run

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x256 .f32) (W : Dev nD → Vec F S256x1024 .f32)
variable (K : Dev nD × Ck → ℕ)

/-! ## Halves of a slot -/

def rHalf (k : Fin 2) : Rect S1x256x512 := Rect.unit (s := S1x256x512) ![0, 0, 256 * k.val] S1x256x256.size (inb_slotHalf k)

theorem rHalf_disj (k k' : Fin 2) (h : k ≠ k') : Disjoint (rHalf k).set (rHalf k').set := by
  have h' : k.val ≠ k'.val := fun e => h (Fin.ext e)
  refine Rect.unit_disjoint (2 : Fin 3) ?_
  show 256 * k.val + 256 ≤ 256 * k'.val ∨ 256 * k'.val + 256 ≤ 256 * k.val
  omega

theorem rHalf_cover : (Finset.univ : Finset (Fin 2)).biUnion (fun k => (rHalf k).set) = Finset.univ := by
  refine Finset.eq_univ_of_forall fun i => Finset.mem_biUnion.mpr ?_
  have h0 : (i (0 : Fin 3) : ℕ) < 1 := (i (0 : Fin 3)).isLt
  have h1 : (i (1 : Fin 3) : ℕ) < 256 := (i (1 : Fin 3)).isLt
  have h2 : (i (2 : Fin 3) : ℕ) < 512 := (i (2 : Fin 3)).isLt
  refine ⟨⟨(i (2 : Fin 3) : ℕ) / 256, by omega⟩, Finset.mem_univ _, ?_⟩
  unfold rHalf
  rw [Rect.mem_set_unit]
  intro a
  fin_cases a
  · show 0 ≤ (i (0 : Fin 3) : ℕ) ∧ (i (0 : Fin 3) : ℕ) < 0 + 1
    omega
  · show 0 ≤ (i (1 : Fin 3) : ℕ) ∧ (i (1 : Fin 3) : ℕ) < 0 + 256
    omega
  · show 256 * ((i (2 : Fin 3) : ℕ) / 256) ≤ (i (2 : Fin 3) : ℕ) ∧ (i (2 : Fin 3) : ℕ) < 256 * ((i (2 : Fin 3) : ℕ) / 256) + 256
    omega

theorem inb_half (n : Fin 6) (k : Fin 2) : ∀ a, (![n.val, 0, 256 * k.val] : Fin 3 → ℕ) a + S1x256x256.size a ≤ S6x256x512.size a := by revert n k; decide

/-- A slot at contents V is its two halves, each at its half of V. -/
theorem cut_slot (n : Fin 6) (c : Dev nD) (V : Vec F S1x256x512 .bf16) :
    sFull n c V ⊢ (iprop(piece sM ![n.val, 0, 256 * (0 : Fin 2).val] S1x256x256.size (inb_half n 0) c (slotHalf V 0)
      ∗ piece sM ![n.val, 0, 256 * (1 : Fin 2).val] S1x256x256.size (inb_half n 1) c (slotHalf V 1)) : sProp 𝕄) := by
  have hk (k : Fin 2) : owns (c : Thread nD τ) ((sM.slice (Rect.unit (s := S6x256x512) ![n.val, 0, 0] S1x256x512.size (inb_slot n)) (fun _ => rfl)).slice (rHalf k) (fun _ => rfl)) fullShare
        (fun j => V ((rHalf k).emb j))
      = (piece sM ![n.val, 0, 256 * k.val] S1x256x256.size (inb_half n k) c (slotHalf V k) : sProp 𝕄) :=
    owns_piece_piece (c : Thread nD τ) sM ![0, 0, 256 * k.val] (inb_slotHalf k) (by intro a; fin_cases a <;> simp) (fun _ => rfl) (fun _ => rfl) (fun _ => rfl) fullShare _
  refine (owns_rects (c : Thread nD τ) _ fullShare rHalf (fun _ _ => rfl) rHalf_disj rHalf_cover V).trans (BIBase.Entails.of_eq ?_)
  rw [bigSep_congr (fun k _ => hk k)]
  exact bigSep_univ_eq_bigSepL [0, 1] (by decide) (by decide) _

/-! ## The second phase -/

/-- The quarters of a product's columns, and the halves of a landed slot, as the program addresses them. -/
theorem off14_q (c : Dev nD) : ∀ a, k0_off14 c a = k0_off11 c a + (![0, 256 * (0 : Fin 4).val] : Fin 2 → ℕ) a := by revert c; decide +kernel
theorem off15_q (c : Dev nD) : ∀ a, k0_off15 c a = k0_off11 c a + (![0, 256 * (1 : Fin 4).val] : Fin 2 → ℕ) a := by revert c; decide +kernel
theorem off16_q (c : Dev nD) : ∀ a, k0_off16 c a = k0_off11 c a + (![0, 256 * (2 : Fin 4).val] : Fin 2 → ℕ) a := by revert c; decide +kernel
theorem off17_q (c : Dev nD) : ∀ a, k0_off17 c a = k0_off11 c a + (![0, 256 * (3 : Fin 4).val] : Fin 2 → ℕ) a := by revert c; decide +kernel
theorem half_q (k : Fin 2) : ∀ a, (![1, 0, 256 * k.val] : Fin 3 → ℕ) a = (![1, 0, 0] : Fin 3 → ℕ) a + (![0, 0, 256 * k.val] : Fin 3 → ℕ) a := by revert k; decide

/-- What `xp` sent for `yp`, with the device's own part, into slot 5 and to `yp` in two halves. -/
theorem part6 (c : Dev nD) (v3 : BitVec 32) {Q : PUnit.{1} → sProp (MT nD τ sig Unit (Elt F) ℕ UU ℕ)} (k : PUnit → Prog (TpuEff nD τ sig (Elt F) Λ₀ .tc) PUnit) :
    iprop(records X W K ∗ owesE c (owed.drop 6) ∗ (∃ V, sFull 5 c V) ∗ (∃ Y, dSlot 6 (yp c) Y) ∗ tok c (sndD 6) ∗ tok c (rcvD 6) ∗ (∃ Y, dSlot 7 (yp c) Y) ∗ tok c (sndD 7) ∗ tok c (rcvD 7))
      ⊢ iprop(((owesE c (owed.drop 8) ∗ crd c (sndD 6) ∗ crd c (sndD 7))
            -∗ runs c (k ⟨⟩) Q)
          -∗ runs c (onBufs (k0_part6 (F := F)) c v3 (k0_pay10 (sentDR X W (xp c)) (halfR (prodYp X W c))) >>= k) Q) := by
  rw [k0_part6_eq_skeleton]
  unfold k0_part6_skel
  simp only [runs, Prog.lift, Prog.bind_op, Prog.bind_ret, Prog.pure_eq_ret]
  iintro ⟨#HR, HO, ⟨%V2, Hs⟩, Hd, Hts, Htr, Hd7, Hts7, Htr7⟩ Hk
  iapply (wp_load_piece 𝒱₀ (c : Thread nD τ) none Set.univ) $$ Hs
  iintro Hs
  iapply (wp_store_piece 𝒱₀ (c : Thread nD τ) none Set.univ) $$ Hs
  iintro Hs
  ihave Hs := (show sFull 5 c (k0_pay11 (k0_pay10 (sentDR X W (xp c)) (halfR (prodYp X W c)))) ⊢ iprop(piece sM ![5, 0, 0] S1x256x256.size inb_S6x256x512_S1x256x256_5_0_0 c (cont X W 6 c) ∗ piece sM ![5, 0, 256] S1x256x256.size inb_S6x256x512_S1x256x256_5_0_256 c (cont X W 7 c)) from cut_slot 5 c _) $$ Hs
  icases Hs with ⟨Hsa, Hsb⟩
  iapply (wp_xfer X W K 6 c (owed.drop 7) (dev7_peer c) (mD := bM) (offS := ![5, 0, 0]) (offD := ![2, 0, 0]) (size := S1x256x256.size)
    (Y := cont X W 6 c) (inbS := inb_S6x256x512_S1x256x256_5_0_0) (inbD := inb_S3x256x512_S1x256x256_2_0_0)
    (hS := squeezes_S1x256x256_S256x256) (hD := squeezes_S1x256x256_S256x256) .rfl (pay_rcv X W 6 c) rfl rfl rfl) $$ [Hsa Hd HO Hts Htr]
  · isplitr; · iexact HR
    isplitl [Hsa]; · iexact Hsa
    isplitl [Hd]; · iexact Hd
    isplitl [HO]; · iexact HO
    isplitl [Hts]; · iexact Hts
    iexact Htr
  iintro ⟨Hcs6, HO⟩
  iapply (wp_xfer X W K 7 c (owed.drop 8) (dev8_peer c) (mD := bM) (offS := ![5, 0, 256]) (offD := ![2, 0, 256]) (size := S1x256x256.size)
    (Y := cont X W 7 c) (inbS := inb_S6x256x512_S1x256x256_5_0_256) (inbD := inb_S3x256x512_S1x256x256_2_0_256)
    (hS := squeezes_S1x256x256_S256x256) (hD := squeezes_S1x256x256_S256x256) .rfl (pay_rcv X W 7 c) rfl rfl rfl) $$ [Hsb Hd7 HO Hts7 Htr7]
  · isplitr; · iexact HR
    isplitl [Hsb]; · iexact Hsb
    isplitl [Hd7]; · iexact Hd7
    isplitl [HO]; · iexact HO
    isplitl [Hts7]; · iexact Hts7
    iexact Htr7
  iintro ⟨Hcs7, HO⟩
  iapply Hk
  isplitl [HO]; · iexact HO
  isplitl [Hcs6]; · iexact Hcs6
  iexact Hcs7

/-- What `yp` sent for `xp` arrives; with the device's own part, into slot 4, the first half to `xp`. -/
theorem part7 (c : Dev nD) (v4 : BitVec 32) {Q : PUnit.{1} → sProp (MT nD τ sig Unit (Elt F) ℕ UU ℕ)} (k : PUnit → Prog (TpuEff nD τ sig (Elt F) Λ₀ .tc) PUnit) :
    iprop(records X W K ∗ levAts L lv ∗ owesE c (owed.drop 8) ∗ pos c (some (.inr 4)) ∗ crd c (rcvD 4) ∗ yXp c (prodXp X W c) ∗ (∃ V, sFull 4 c V) ∗ (∃ Y, dSlot 2 (xp c) Y) ∗ tok c (sndD 2) ∗ tok c (rcvD 2))
      ⊢ iprop(((owesE c (owed.drop 9) ∗ semVal (kcell (c, some (.inr 4))) 0 ∗ piece bM ![0, 0, 0] S1x256x512.size inb_S3x256x512_S1x256x512_0_0_0 c (sentDL X W (yp c)) ∗ yXp c (prodXp X W c) ∗ crd c (sndD 2) ∗ piece sM ![4, 0, 256] S1x256x256.size inb_S6x256x512_S1x256x256_4_0_256 c (cont X W 3 c))
            -∗ runs c (k ⟨⟩) Q)
          -∗ runs c (onBufs (k0_part7 (F := F)) c v4 >>= k) Q) := by
  rw [k0_part7_eq_skeleton]
  unfold k0_part7_skel
  simp only [runs, Prog.lift, Prog.bind_op, Prog.bind_ret, Prog.pure_eq_ret]
  iintro ⟨#HR, #HL, HO, Hprcv4, Hcrcv4, Hy, ⟨%V2, Hs⟩, Hd, Hts, Htr⟩ Hk
  iapply (wp_wait_own X W K (.inr 4) c (owed.drop 8) (by decide)
    ((bM.slice (Rect.unit (s := S3x256x512) ![0, 0, 0] S1x256x512.size inb_S3x256x512_S1x256x512_0_0_0) (fun _ => rfl)).squeeze S256x512 squeezes_S1x256x512_S256x512) rfl rfl) $$ [HO Hprcv4 Hcrcv4]
  · isplitr; · iexact HR
    isplitr; · iexact HL
    isplitl [HO]; · iexact HO
    isplitl [Hprcv4]; · iexact Hprcv4
    iexact Hcrcv4
  iintro ⟨HO, Hzrcv4, Hg⟩
  ihave Hg := (show pay X W c (rcvD 4) ⊢ piece bM ![0, 0, 0] S1x256x512.size inb_S3x256x512_S1x256x512_0_0_0 c (sentDL X W (yp c)) from .rfl) $$ Hg
  iapply (wp_load_piece 𝒱₀ (c : Thread nD τ) none Set.univ) $$ Hg
  iintro Hg
  iapply (wp_load_part 𝒱₀ (c : Thread nD τ) none Set.univ (o := ![0, 0]) inb_L (off13_left c)) $$ Hy
  iintro Hy
  iapply (wp_load_piece 𝒱₀ (c : Thread nD τ) none Set.univ) $$ Hs
  iintro Hs
  iapply (wp_store_piece 𝒱₀ (c : Thread nD τ) none Set.univ) $$ Hs
  iintro Hs
  ihave Hs := (show sFull 4 c (k0_pay12 (sentDL X W (yp c)) (part (n := 2) (size := S256x1024.size) (prodXp X W c) ![0, 0] S256x512.size inb_L)) ⊢ iprop(piece sM ![4, 0, 0] S1x256x256.size inb_S6x256x512_S1x256x256_4_0_0 c (cont X W 2 c) ∗ piece sM ![4, 0, 256] S1x256x256.size inb_S6x256x512_S1x256x256_4_0_256 c (cont X W 3 c)) from cut_slot 4 c _) $$ Hs
  icases Hs with ⟨Hsa, Hsb⟩
  iapply (wp_xfer X W K 2 c (owed.drop 9) (dev9_peer c) (mD := aM) (offS := ![4, 0, 0]) (offD := ![2, 0, 0]) (size := S1x256x256.size)
    (Y := cont X W 2 c) (inbS := inb_S6x256x512_S1x256x256_4_0_0) (inbD := inb_S3x256x512_S1x256x256_2_0_0)
    (hS := squeezes_S1x256x256_S256x256) (hD := squeezes_S1x256x256_S256x256) .rfl (pay_rcv X W 2 c) rfl rfl rfl) $$ [Hsa Hd HO Hts Htr]
  · isplitr; · iexact HR
    isplitl [Hsa]; · iexact Hsa
    isplitl [Hd]; · iexact Hd
    isplitl [HO]; · iexact HO
    isplitl [Hts]; · iexact Hts
    iexact Htr
  iintro ⟨Hcs2, HO⟩
  iapply Hk
  isplitl [HO]; · iexact HO
  isplitl [Hzrcv4]; · iexact Hzrcv4
  isplitl [Hg]; · iexact Hg
  isplitl [Hy]; · iexact Hy
  isplitl [Hcs2]; · iexact Hcs2
  iexact Hsb

/-- The second half to `xp`; `yp`'s part of the device's own rows arrives, and the first half of what `xp` has summed. -/
theorem part8 (c : Dev nD) (v2 v3 v4 : BitVec 32) {Q : PUnit.{1} → sProp (MT nD τ sig Unit (Elt F) ℕ UU ℕ)} (k : FVec F S256x256 .f32 → Prog (TpuEff nD τ sig (Elt F) Λ₀ .tc) PUnit) :
    iprop(records X W K ∗ levAts L lv ∗ owesE c (owed.drop 9) ∗ piece sM ![4, 0, 256] S1x256x256.size inb_S6x256x512_S1x256x256_4_0_256 c (cont X W 3 c) ∗ (∃ Y, dSlot 3 (xp c) Y) ∗ tok c (sndD 3) ∗ tok c (rcvD 3) ∗ pos c (some (.inr 5)) ∗ crd c (rcvD 5) ∗ pos c (some (.inr 2)) ∗ crd c (rcvD 2) ∗ yOwn c (prodOwn X W c))
      ⊢ iprop(((owesE c (owed.drop 10) ∗ crd c (sndD 3) ∗ semVal (kcell (c, some (.inr 5))) 0 ∗ piece bM ![1, 0, 0] S1x256x512.size inb_S3x256x512_S1x256x512_1_0_0 c (sentYp X W (yp c)) ∗ semVal (kcell (c, some (.inr 2))) 0 ∗ piece aM ![2, 0, 0] S1x256x256.size inb_S3x256x512_S1x256x256_2_0_0 c (slotHalf (sumXp X W (xp c)) 0) ∗ yOwn c (prodOwn X W c))
            -∗ runs c (k (k0_pay13 (quarter (prodOwn X W c) 0) (slotHalf (sentYp X W (yp c)) 0))) Q)
          -∗ runs c (onBufs (k0_part8 (F := F)) c v2 v3 v4 >>= k) Q) := by
  rw [k0_part8_eq_skeleton]
  unfold k0_part8_skel
  simp only [runs, Prog.lift, Prog.bind_op, Prog.bind_ret, Prog.pure_eq_ret]
  iintro ⟨#HR, #HL, HO, Hs, Hd, Hts, Htr, Hprcv5, Hcrcv5, Hprcv2, Hcrcv2, Hy⟩ Hk
  iapply (wp_xfer X W K 3 c (owed.drop 10) (dev10_peer c) (mD := aM) (offS := ![4, 0, 256]) (offD := ![2, 0, 256]) (size := S1x256x256.size)
    (Y := cont X W 3 c) (inbS := inb_S6x256x512_S1x256x256_4_0_256) (inbD := inb_S3x256x512_S1x256x256_2_0_256)
    (hS := squeezes_S1x256x256_S256x256) (hD := squeezes_S1x256x256_S256x256) .rfl (pay_rcv X W 3 c) rfl rfl rfl) $$ [Hs Hd HO Hts Htr]
  · isplitr; · iexact HR
    isplitl [Hs]; · iexact Hs
    isplitl [Hd]; · iexact Hd
    isplitl [HO]; · iexact HO
    isplitl [Hts]; · iexact Hts
    iexact Htr
  iintro ⟨Hcs3, HO⟩
  iapply (wp_wait_own X W K (.inr 5) c (owed.drop 10) (by decide)
    ((bM.slice (Rect.unit (s := S3x256x512) ![1, 0, 0] S1x256x512.size inb_S3x256x512_S1x256x512_1_0_0) (fun _ => rfl)).squeeze S256x512 squeezes_S1x256x512_S256x512) rfl rfl) $$ [HO Hprcv5 Hcrcv5]
  · isplitr; · iexact HR
    isplitr; · iexact HL
    isplitl [HO]; · iexact HO
    isplitl [Hprcv5]; · iexact Hprcv5
    iexact Hcrcv5
  iintro ⟨HO, Hzrcv5, Hg5⟩
  ihave Hg5 := (show pay X W c (rcvD 5) ⊢ piece bM ![1, 0, 0] S1x256x512.size inb_S3x256x512_S1x256x512_1_0_0 c (sentYp X W (yp c)) from .rfl) $$ Hg5
  iapply (wp_wait_own X W K (.inr 2) c (owed.drop 10) (by decide)
    ((aM.slice (Rect.unit (s := S3x256x512) ![2, 0, 0] S1x256x256.size inb_S3x256x512_S1x256x256_2_0_0) (fun _ => rfl)).squeeze S256x256 squeezes_S1x256x256_S256x256) rfl rfl) $$ [HO Hprcv2 Hcrcv2]
  · isplitr; · iexact HR
    isplitr; · iexact HL
    isplitl [HO]; · iexact HO
    isplitl [Hprcv2]; · iexact Hprcv2
    iexact Hcrcv2
  iintro ⟨HO, Hzrcv2, Hg2⟩
  ihave Hg2 := (show pay X W c (rcvD 2) ⊢ piece aM ![2, 0, 0] S1x256x256.size inb_S3x256x512_S1x256x256_2_0_0 c (slotHalf (sumXp X W (xp c)) 0) from .rfl) $$ Hg2
  iapply (wp_load_part 𝒱₀ (c : Thread nD τ) none Set.univ (o := ![0, 256 * (0 : Fin 4).val]) (inb_quarter 0) (off14_q c)) $$ Hy
  iintro Hy
  iapply (wp_load_part 𝒱₀ (c : Thread nD τ) none Set.univ (o := ![0, 0, 256 * (0 : Fin 2).val]) (inb_slotHalf 0) (half_q 0)) $$ Hg5
  iintro Hg5
  iapply Hk
  isplitl [HO]; · iexact HO
  isplitl [Hcs3]; · iexact Hcs3
  isplitl [Hzrcv5]; · iexact Hzrcv5
  isplitl [Hg5]; · iexact Hg5
  isplitl [Hzrcv2]; · iexact Hzrcv2
  isplitl [Hg2]; · iexact Hg2
  iexact Hy

/-- The first quarter of the result; the second half of what `xp` has summed arrives. -/
theorem part9 (c : Dev nD) (v2 v4 : BitVec 32) {Q : PUnit.{1} → sProp (MT nD τ sig Unit (Elt F) ℕ UU ℕ)} (k : FVec F S256x256 .f32 → Prog (TpuEff nD τ sig (Elt F) Λ₀ .tc) PUnit) :
    iprop(records X W K ∗ levAts L lv ∗ owesE c (owed.drop 10) ∗ piece aM ![2, 0, 0] S1x256x256.size inb_S3x256x512_S1x256x256_2_0_0 c (slotHalf (sumXp X W (xp c)) 0) ∗ (∃ V, piece oM ![0, 0] S256x256.size inb_S256x1024_S256x256_0_0 c V) ∗ pos c (some (.inr 3)) ∗ crd c (rcvD 3) ∗ yOwn c (prodOwn X W c) ∗ piece bM ![1, 0, 0] S1x256x512.size inb_S3x256x512_S1x256x512_1_0_0 c (sentYp X W (yp c)))
      ⊢ iprop(((owesE c (owed.drop 10) ∗ piece aM ![2, 0, 0] S1x256x256.size inb_S3x256x512_S1x256x256_2_0_0 c (slotHalf (sumXp X W (xp c)) 0) ∗ piece oM ![0, 0] S256x256.size inb_S256x1024_S256x256_0_0 c (out0 X W c) ∗ semVal (kcell (c, some (.inr 3))) 0 ∗ piece aM ![2, 0, 256] S1x256x256.size inb_S3x256x512_S1x256x256_2_0_256 c (slotHalf (sumXp X W (xp c)) 1) ∗ yOwn c (prodOwn X W c) ∗ piece bM ![1, 0, 0] S1x256x512.size inb_S3x256x512_S1x256x512_1_0_0 c (sentYp X W (yp c)))
            -∗ runs c (k (k0_pay15 (quarter (prodOwn X W c) 1) (slotHalf (sentYp X W (yp c)) 1))) Q)
          -∗ runs c (onBufs (k0_part9 (F := F)) c v2 v4 (k0_pay13 (quarter (prodOwn X W c) 0) (slotHalf (sentYp X W (yp c)) 0)) >>= k) Q) := by
  rw [k0_part9_eq_skeleton]
  unfold k0_part9_skel
  simp only [runs, Prog.lift, Prog.bind_op, Prog.bind_ret, Prog.pure_eq_ret]
  iintro ⟨#HR, #HL, HO, Hg2, ⟨%V1, Ho⟩, Hprcv3, Hcrcv3, Hy, Hg5⟩ Hk
  iapply (wp_load_piece 𝒱₀ (c : Thread nD τ) none Set.univ) $$ Hg2
  iintro Hg2
  iapply (wp_load_piece 𝒱₀ (c : Thread nD τ) none Set.univ) $$ Ho
  iintro Ho
  iapply (wp_store_piece 𝒱₀ (c : Thread nD τ) none Set.univ) $$ Ho
  iintro Ho
  iapply (wp_wait_own X W K (.inr 3) c (owed.drop 10) (by decide)
    ((aM.slice (Rect.unit (s := S3x256x512) ![2, 0, 256] S1x256x256.size inb_S3x256x512_S1x256x256_2_0_256) (fun _ => rfl)).squeeze S256x256 squeezes_S1x256x256_S256x256) rfl rfl) $$ [HO Hprcv3 Hcrcv3]
  · isplitr; · iexact HR
    isplitr; · iexact HL
    isplitl [HO]; · iexact HO
    isplitl [Hprcv3]; · iexact Hprcv3
    iexact Hcrcv3
  iintro ⟨HO, Hzrcv3, Hg3⟩
  ihave Hg3 := (show pay X W c (rcvD 3) ⊢ piece aM ![2, 0, 256] S1x256x256.size inb_S3x256x512_S1x256x256_2_0_256 c (slotHalf (sumXp X W (xp c)) 1) from .rfl) $$ Hg3
  iapply (wp_load_part 𝒱₀ (c : Thread nD τ) none Set.univ (o := ![0, 256 * (1 : Fin 4).val]) (inb_quarter 1) (off15_q c)) $$ Hy
  iintro Hy
  iapply (wp_load_part 𝒱₀ (c : Thread nD τ) none Set.univ (o := ![0, 0, 256 * (1 : Fin 2).val]) (inb_slotHalf 1) (half_q 1)) $$ Hg5
  iintro Hg5
  iapply Hk
  isplitl [HO]; · iexact HO
  isplitl [Hg2]; · iexact Hg2
  isplitl [Ho]; · iexact Ho
  isplitl [Hzrcv3]; · iexact Hzrcv3
  isplitl [Hg3]; · iexact Hg3
  isplitl [Hy]; · iexact Hy
  iexact Hg5

/-- The second quarter of the result; `xp`'s part of the device's own rows arrives. -/
theorem part10 (c : Dev nD) (v3 v4 : BitVec 32) {Q : PUnit.{1} → sProp (MT nD τ sig Unit (Elt F) ℕ UU ℕ)} (k : PUnit → Prog (TpuEff nD τ sig (Elt F) Λ₀ .tc) PUnit) :
    iprop(records X W K ∗ levAts L lv ∗ owesE c (owed.drop 10) ∗ piece aM ![2, 0, 256] S1x256x256.size inb_S3x256x512_S1x256x256_2_0_256 c (slotHalf (sumXp X W (xp c)) 1) ∗ (∃ V, piece oM ![0, 256] S256x256.size inb_S256x1024_S256x256_0_256 c V) ∗ pos c (some (.inr 1)) ∗ crd c (rcvD 1))
      ⊢ iprop(((owesE c (owed.drop 10) ∗ piece aM ![2, 0, 256] S1x256x256.size inb_S3x256x512_S1x256x256_2_0_256 c (slotHalf (sumXp X W (xp c)) 1) ∗ piece oM ![0, 256] S256x256.size inb_S256x1024_S256x256_0_256 c (out1 X W c) ∗ semVal (kcell (c, some (.inr 1))) 0 ∗ piece aM ![1, 0, 0] S1x256x512.size inb_S3x256x512_S1x256x512_1_0_0 c (sentXp X W (xp c)))
            -∗ runs c (k ⟨⟩) Q)
          -∗ runs c (onBufs (k0_part10 (F := F)) v3 v4 (k0_pay15 (quarter (prodOwn X W c) 1) (slotHalf (sentYp X W (yp c)) 1)) >>= k) Q) := by
  rw [k0_part10_eq_skeleton]
  unfold k0_part10_skel
  simp only [runs, Prog.lift, Prog.bind_op, Prog.bind_ret, Prog.pure_eq_ret]
  iintro ⟨#HR, #HL, HO, Hg3, ⟨%V1, Ho⟩, Hprcv1, Hcrcv1⟩ Hk
  iapply (wp_load_piece 𝒱₀ (c : Thread nD τ) none Set.univ) $$ Hg3
  iintro Hg3
  iapply (wp_load_piece 𝒱₀ (c : Thread nD τ) none Set.univ) $$ Ho
  iintro Ho
  iapply (wp_store_piece 𝒱₀ (c : Thread nD τ) none Set.univ) $$ Ho
  iintro Ho
  iapply (wp_wait_own X W K (.inr 1) c (owed.drop 10) (by decide)
    ((aM.slice (Rect.unit (s := S3x256x512) ![1, 0, 0] S1x256x512.size inb_S3x256x512_S1x256x512_1_0_0) (fun _ => rfl)).squeeze S256x512 squeezes_S1x256x512_S256x512) rfl rfl) $$ [HO Hprcv1 Hcrcv1]
  · isplitr; · iexact HR
    isplitr; · iexact HL
    isplitl [HO]; · iexact HO
    isplitl [Hprcv1]; · iexact Hprcv1
    iexact Hcrcv1
  iintro ⟨HO, Hzrcv1, Hg1⟩
  ihave Hg1 := (show pay X W c (rcvD 1) ⊢ piece aM ![1, 0, 0] S1x256x512.size inb_S3x256x512_S1x256x512_1_0_0 c (sentXp X W (xp c)) from .rfl) $$ Hg1
  iapply Hk
  isplitl [HO]; · iexact HO
  isplitl [Hg3]; · iexact Hg3
  isplitl [Ho]; · iexact Ho
  isplitl [Hzrcv1]; · iexact Hzrcv1
  iexact Hg1

/-- The first half of what `yp` has summed arrives; the third quarter of the result. -/
theorem part11 (c : Dev nD) (v2 v3 : BitVec 32) {Q : PUnit.{1} → sProp (MT nD τ sig Unit (Elt F) ℕ UU ℕ)} (k : PUnit → Prog (TpuEff nD τ sig (Elt F) Λ₀ .tc) PUnit) :
    iprop(records X W K ∗ levAts L lv ∗ owesE c (owed.drop 10) ∗ pos c (some (.inr 6)) ∗ crd c (rcvD 6) ∗ yOwn c (prodOwn X W c) ∗ piece aM ![1, 0, 0] S1x256x512.size inb_S3x256x512_S1x256x512_1_0_0 c (sentXp X W (xp c)) ∗ (∃ V, piece oM ![0, 512] S256x256.size inb_S256x1024_S256x256_0_512 c V))
      ⊢ iprop(((owesE c (owed.drop 10) ∗ semVal (kcell (c, some (.inr 6))) 0 ∗ piece bM ![2, 0, 0] S1x256x256.size inb_S3x256x512_S1x256x256_2_0_0 c (slotHalf (sumYp X W (yp c)) 0) ∗ yOwn c (prodOwn X W c) ∗ piece aM ![1, 0, 0] S1x256x512.size inb_S3x256x512_S1x256x512_1_0_0 c (sentXp X W (xp c)) ∗ piece oM ![0, 512] S256x256.size inb_S256x1024_S256x256_0_512 c (out2 X W c))
            -∗ runs c (k ⟨⟩) Q)
          -∗ runs c (onBufs (k0_part11 (F := F)) c v2 v3 >>= k) Q) := by
  rw [k0_part11_eq_skeleton]
  unfold k0_part11_skel
  simp only [runs, Prog.lift, Prog.bind_op, Prog.bind_ret, Prog.pure_eq_ret]
  iintro ⟨#HR, #HL, HO, Hprcv6, Hcrcv6, Hy, Hg1, ⟨%V1, Ho⟩⟩ Hk
  iapply (wp_wait_own X W K (.inr 6) c (owed.drop 10) (by decide)
    ((bM.slice (Rect.unit (s := S3x256x512) ![2, 0, 0] S1x256x256.size inb_S3x256x512_S1x256x256_2_0_0) (fun _ => rfl)).squeeze S256x256 squeezes_S1x256x256_S256x256) rfl rfl) $$ [HO Hprcv6 Hcrcv6]
  · isplitr; · iexact HR
    isplitr; · iexact HL
    isplitl [HO]; · iexact HO
    isplitl [Hprcv6]; · iexact Hprcv6
    iexact Hcrcv6
  iintro ⟨HO, Hzrcv6, Hg6⟩
  ihave Hg6 := (show pay X W c (rcvD 6) ⊢ piece bM ![2, 0, 0] S1x256x256.size inb_S3x256x512_S1x256x256_2_0_0 c (slotHalf (sumYp X W (yp c)) 0) from .rfl) $$ Hg6
  iapply (wp_load_part 𝒱₀ (c : Thread nD τ) none Set.univ (o := ![0, 256 * (2 : Fin 4).val]) (inb_quarter 2) (off16_q c)) $$ Hy
  iintro Hy
  iapply (wp_load_part 𝒱₀ (c : Thread nD τ) none Set.univ (o := ![0, 0, 256 * (0 : Fin 2).val]) (inb_slotHalf 0) (half_q 0)) $$ Hg1
  iintro Hg1
  iapply (wp_load_piece 𝒱₀ (c : Thread nD τ) none Set.univ) $$ Hg6
  iintro Hg6
  iapply (wp_load_piece 𝒱₀ (c : Thread nD τ) none Set.univ) $$ Ho
  iintro Ho
  iapply (wp_store_piece 𝒱₀ (c : Thread nD τ) none Set.univ) $$ Ho
  iintro Ho
  iapply Hk
  isplitl [HO]; · iexact HO
  isplitl [Hzrcv6]; · iexact Hzrcv6
  isplitl [Hg6]; · iexact Hg6
  isplitl [Hy]; · iexact Hy
  isplitl [Hg1]; · iexact Hg1
  iexact Ho

/-- The second half of what `yp` has summed arrives; the last quarter of the result; slot 0 has left. -/
theorem part12 (c : Dev nD) (v2 : BitVec 32) {Q : PUnit.{1} → sProp (MT nD τ sig Unit (Elt F) ℕ UU ℕ)} (k : PUnit → Prog (TpuEff nD τ sig (Elt F) Λ₀ .tc) PUnit) :
    iprop(records X W K ∗ levAts L lv ∗ owesE c (owed.drop 10) ∗ pos c (some (.inr 7)) ∗ crd c (rcvD 7) ∗ yOwn c (prodOwn X W c) ∗ piece aM ![1, 0, 0] S1x256x512.size inb_S3x256x512_S1x256x512_1_0_0 c (sentXp X W (xp c)) ∗ (∃ V, piece oM ![0, 768] S256x256.size inb_S256x1024_S256x256_0_768 c V) ∗ pos c (some (.inl 0)) ∗ crd c (sndD 0))
      ⊢ iprop(((owesE c (owed.drop 10) ∗ semVal (kcell (c, some (.inr 7))) 0 ∗ piece bM ![2, 0, 256] S1x256x256.size inb_S3x256x512_S1x256x256_2_0_256 c (slotHalf (sumYp X W (yp c)) 1) ∗ yOwn c (prodOwn X W c) ∗ piece aM ![1, 0, 0] S1x256x512.size inb_S3x256x512_S1x256x512_1_0_0 c (sentXp X W (xp c)) ∗ piece oM ![0, 768] S256x256.size inb_S256x1024_S256x256_0_768 c (out3 X W c) ∗ semVal (kcell (c, some (.inl 0))) 0 ∗ pay X W c (sndD 0))
            -∗ runs c (k ⟨⟩) Q)
          -∗ runs c (onBufs (k0_part12 (F := F)) c v2 >>= k) Q) := by
  rw [k0_part12_eq_skeleton]
  unfold k0_part12_skel
  simp only [runs, Prog.lift, Prog.bind_op, Prog.bind_ret, Prog.pure_eq_ret]
  iintro ⟨#HR, #HL, HO, Hprcv7, Hcrcv7, Hy, Hg1, ⟨%V1, Ho⟩, Hpsnd0, Hcsnd0⟩ Hk
  iapply (wp_wait_own X W K (.inr 7) c (owed.drop 10) (by decide)
    ((bM.slice (Rect.unit (s := S3x256x512) ![2, 0, 256] S1x256x256.size inb_S3x256x512_S1x256x256_2_0_256) (fun _ => rfl)).squeeze S256x256 squeezes_S1x256x256_S256x256) rfl rfl) $$ [HO Hprcv7 Hcrcv7]
  · isplitr; · iexact HR
    isplitr; · iexact HL
    isplitl [HO]; · iexact HO
    isplitl [Hprcv7]; · iexact Hprcv7
    iexact Hcrcv7
  iintro ⟨HO, Hzrcv7, Hg7⟩
  ihave Hg7 := (show pay X W c (rcvD 7) ⊢ piece bM ![2, 0, 256] S1x256x256.size inb_S3x256x512_S1x256x256_2_0_256 c (slotHalf (sumYp X W (yp c)) 1) from .rfl) $$ Hg7
  iapply (wp_load_part 𝒱₀ (c : Thread nD τ) none Set.univ (o := ![0, 256 * (3 : Fin 4).val]) (inb_quarter 3) (off17_q c)) $$ Hy
  iintro Hy
  iapply (wp_load_part 𝒱₀ (c : Thread nD τ) none Set.univ (o := ![0, 0, 256 * (1 : Fin 2).val]) (inb_slotHalf 1) (half_q 1)) $$ Hg1
  iintro Hg1
  iapply (wp_load_piece 𝒱₀ (c : Thread nD τ) none Set.univ) $$ Hg7
  iintro Hg7
  iapply (wp_load_piece 𝒱₀ (c : Thread nD τ) none Set.univ) $$ Ho
  iintro Ho
  iapply (wp_store_piece 𝒱₀ (c : Thread nD τ) none Set.univ) $$ Ho
  iintro Ho
  iapply (wp_wait_own X W K (.inl 0) c (owed.drop 10) (by decide)
    ((sM.slice (Rect.unit (s := S6x256x512) ![0, 0, 0] S1x256x512.size inb_S6x256x512_S1x256x512_0_0_0) (fun _ => rfl)).squeeze S256x512 squeezes_S1x256x512_S256x512) rfl rfl) $$ [HO Hpsnd0 Hcsnd0]
  · isplitr; · iexact HR
    isplitr; · iexact HL
    isplitl [HO]; · iexact HO
    isplitl [Hpsnd0]; · iexact Hpsnd0
    iexact Hcsnd0
  iintro ⟨HO, Hzsnd0, Hs0⟩
  iapply Hk
  isplitl [HO]; · iexact HO
  isplitl [Hzrcv7]; · iexact Hzrcv7
  isplitl [Hg7]; · iexact Hg7
  isplitl [Hy]; · iexact Hy
  isplitl [Hg1]; · iexact Hg1
  isplitl [Ho]; · iexact Ho
  isplitl [Hzsnd0]; · iexact Hzsnd0
  iexact Hs0

/-- Slots 2, 3 and 1 have left. -/
theorem part13 (c : Dev nD)  {Q : PUnit.{1} → sProp (MT nD τ sig Unit (Elt F) ℕ UU ℕ)} (k : PUnit → Prog (TpuEff nD τ sig (Elt F) Λ₀ .tc) PUnit) :
    iprop(records X W K ∗ levAts L lv ∗ owesE c (owed.drop 10) ∗ pos c (some (.inl 4)) ∗ crd c (sndD 4) ∗ pos c (some (.inl 5)) ∗ crd c (sndD 5) ∗ pos c (some (.inl 1)) ∗ crd c (sndD 1))
      ⊢ iprop(((owesE c (owed.drop 10) ∗ semVal (kcell (c, some (.inl 4))) 0 ∗ pay X W c (sndD 4) ∗ semVal (kcell (c, some (.inl 5))) 0 ∗ pay X W c (sndD 5) ∗ semVal (kcell (c, some (.inl 1))) 0 ∗ pay X W c (sndD 1))
            -∗ runs c (k ⟨⟩) Q)
          -∗ runs c (onBufs (k0_part13 (F := F))  >>= k) Q) := by
  rw [k0_part13_eq_skeleton]
  unfold k0_part13_skel
  simp only [runs, Prog.lift, Prog.bind_op, Prog.bind_ret, Prog.pure_eq_ret]
  iintro ⟨#HR, #HL, HO, Hpsnd4, Hcsnd4, Hpsnd5, Hcsnd5, Hpsnd1, Hcsnd1⟩ Hk
  iapply (wp_wait_own X W K (.inl 4) c (owed.drop 10) (by decide)
    ((sM.slice (Rect.unit (s := S6x256x512) ![2, 0, 0] S1x256x512.size inb_S6x256x512_S1x256x512_2_0_0) (fun _ => rfl)).squeeze S256x512 squeezes_S1x256x512_S256x512) rfl rfl) $$ [HO Hpsnd4 Hcsnd4]
  · isplitr; · iexact HR
    isplitr; · iexact HL
    isplitl [HO]; · iexact HO
    isplitl [Hpsnd4]; · iexact Hpsnd4
    iexact Hcsnd4
  iintro ⟨HO, Hzsnd4, Hs4⟩
  iapply (wp_wait_own X W K (.inl 5) c (owed.drop 10) (by decide)
    ((sM.slice (Rect.unit (s := S6x256x512) ![3, 0, 0] S1x256x512.size inb_S6x256x512_S1x256x512_3_0_0) (fun _ => rfl)).squeeze S256x512 squeezes_S1x256x512_S256x512) rfl rfl) $$ [HO Hpsnd5 Hcsnd5]
  · isplitr; · iexact HR
    isplitr; · iexact HL
    isplitl [HO]; · iexact HO
    isplitl [Hpsnd5]; · iexact Hpsnd5
    iexact Hcsnd5
  iintro ⟨HO, Hzsnd5, Hs5⟩
  iapply (wp_wait_own X W K (.inl 1) c (owed.drop 10) (by decide)
    ((sM.slice (Rect.unit (s := S6x256x512) ![1, 0, 0] S1x256x512.size inb_S6x256x512_S1x256x512_1_0_0) (fun _ => rfl)).squeeze S256x512 squeezes_S1x256x512_S256x512) rfl rfl) $$ [HO Hpsnd1 Hcsnd1]
  · isplitr; · iexact HR
    isplitr; · iexact HL
    isplitl [HO]; · iexact HO
    isplitl [Hpsnd1]; · iexact Hpsnd1
    iexact Hcsnd1
  iintro ⟨HO, Hzsnd1, Hs1⟩
  iapply Hk
  isplitl [HO]; · iexact HO
  isplitl [Hzsnd4]; · iexact Hzsnd4
  isplitl [Hs4]; · iexact Hs4
  isplitl [Hzsnd5]; · iexact Hzsnd5
  isplitl [Hs5]; · iexact Hs5
  isplitl [Hzsnd1]; · iexact Hzsnd1
  iexact Hs1

end Cert.KernelIdeal.Run

end
-- ==== Proof.KernelIdealRun.Slots.lean ====
/-
  Each buffer cut into the pieces that the body works on, and put together again: the products in five, the buffer sent
  from in six slots, the two receive buffers in the places where transfers land, the result in four column blocks.
-/
module

public import proofs.«01_k».proof.Proof.KernelIdealRun.Part3

@[expose] public section

noncomputable section

namespace Cert.KernelIdeal.Run

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The product buffer in five pieces -/

def yOff (c : Dev nD) (t : Fin 5) : Fin 2 → ℕ := match t with
  | 0 => k0_off2 c | 1 => k0_off3 c | 2 => k0_off5 c | 3 => k0_off8 c | 4 => k0_off11 c
def ySz (t : Fin 5) : Fin 2 → ℕ := match t with
  | 0 => S256x512.size | 1 => S256x512.size | 2 => S256x1024.size | 3 => S256x1024.size | 4 => S256x1024.size
theorem yOff_inb (c : Dev nD) (t : Fin 5) : ∀ a, yOff c t a + ySz t a ≤ S1024x1024.size a := by revert c t; decide +kernel
def yRect (c : Dev nD) (t : Fin 5) : Rect S1024x1024 := Rect.unit (s := S1024x1024) (yOff c t) (ySz t) (yOff_inb c t)

theorem yRect_disj (c : Dev nD) (t t' : Fin 5) (h : t ≠ t') : Disjoint (yRect c t).set (yRect c t').set := by
  have hall : ∀ (c : Dev nD) (t t' : Fin 5), t ≠ t' → ∃ a, yOff c t a + ySz t a ≤ yOff c t' a ∨ yOff c t' a + ySz t' a ≤ yOff c t a := by decide +kernel
  obtain ⟨a, ha⟩ := hall c t t' h
  exact Rect.unit_disjoint a ha

theorem yRect_cover (c : Dev nD) : (Finset.univ : Finset (Fin 5)).biUnion (fun t => (yRect c t).set) = Finset.univ := by
  have hall : ∀ (c : Dev nD) (b : Fin 4) (h : Fin 2), ∃ t : Fin 5, (yOff c t 0 = 256 * b.val ∧ ySz t 0 = 256) ∧ yOff c t 1 ≤ 512 * h.val ∧ 512 * h.val + 512 ≤ yOff c t 1 + ySz t 1 := by
    decide +kernel
  refine Finset.eq_univ_of_forall fun i => Finset.mem_biUnion.mpr ?_
  have h0 : (i (0 : Fin 2) : ℕ) < 1024 := (i (0 : Fin 2)).isLt
  have h1 : (i (1 : Fin 2) : ℕ) < 1024 := (i (1 : Fin 2)).isLt
  obtain ⟨t, ⟨e0, z0⟩, l1, u1⟩ := hall c ⟨(i (0 : Fin 2) : ℕ) / 256, by omega⟩ ⟨(i (1 : Fin 2) : ℕ) / 512, by omega⟩
  refine ⟨t, Finset.mem_univ _, ?_⟩
  unfold yRect
  rw [Rect.mem_set_unit]
  refine Fin.forall_fin_two.mpr ⟨?_, ?_⟩ <;> dsimp only at * <;> omega

/-! ## The buffer sent from: in six slots, and in the sources of the eight transfers -/

def slotRect (n : Fin 6) : Rect S6x256x512 := Rect.unit (s := S6x256x512) ![n.val, 0, 0] S1x256x512.size (inb_slot n)

theorem slotRect_disj (n n' : Fin 6) (h : n ≠ n') : Disjoint (slotRect n).set (slotRect n').set := by
  have h' : n.val ≠ n'.val := fun e => h (Fin.ext e)
  refine Rect.unit_disjoint (0 : Fin 3) ?_
  show n.val + 1 ≤ n'.val ∨ n'.val + 1 ≤ n.val
  omega

/-- A family of rectangles, one to each slot or half a slot, covers a buffer of slots. -/
theorem cover_slots {T : Type} [Fintype T] [DecidableEq T] (N : ℕ) (off size : T → Fin 3 → ℕ) (inb : ∀ t a, off t a + size t a ≤ (⟨3, ![N, 256, 512]⟩ : Shape).size a)
    (hall : ∀ (n : Fin N) (h : Fin 2), ∃ t, (off t 0 = n.val ∧ size t 0 = 1) ∧ (off t 1 = 0 ∧ size t 1 = 256) ∧ off t 2 ≤ 256 * h.val ∧ 256 * h.val + 256 ≤ off t 2 + size t 2) :
    (Finset.univ : Finset T).biUnion (fun t => (Rect.unit (s := ⟨3, ![N, 256, 512]⟩) (off t) (size t) (inb t)).set) = Finset.univ := by
  refine Finset.eq_univ_of_forall fun i => Finset.mem_biUnion.mpr ?_
  have h0 : (i (0 : Fin 3) : ℕ) < N := (i (0 : Fin 3)).isLt
  have h1 : (i (1 : Fin 3) : ℕ) < 256 := (i (1 : Fin 3)).isLt
  have h2 : (i (2 : Fin 3) : ℕ) < 512 := (i (2 : Fin 3)).isLt
  obtain ⟨t, ⟨e0, z0⟩, ⟨e1, z1⟩, l2, u2⟩ := hall ⟨(i (0 : Fin 3) : ℕ), h0⟩ ⟨(i (2 : Fin 3) : ℕ) / 256, by omega⟩
  refine ⟨t, Finset.mem_univ _, ?_⟩
  rw [Rect.mem_set_unit]
  dsimp only at *
  intro a
  match a with
  | 0 => exact ⟨by omega, by omega⟩
  | 1 => exact ⟨by omega, by omega⟩
  | 2 => exact ⟨by omega, by omega⟩

theorem slotRect_cover : (Finset.univ : Finset (Fin 6)).biUnion (fun n => (slotRect n).set) = Finset.univ :=
  cover_slots 6 (fun n : Fin 6 => ![n.val, 0, 0]) (fun _ => S1x256x512.size) inb_slot (by decide)

theorem sRect_disj (t t' : Fin 8) (h : t ≠ t') : Disjoint (sRect t).set (sRect t').set := by
  have hall : ∀ t t' : Fin 8, t ≠ t' → ∃ a, sOff t a + sz t a ≤ sOff t' a ∨ sOff t' a + sz t' a ≤ sOff t a := by decide
  obtain ⟨a, ha⟩ := hall t t' h
  exact Rect.unit_disjoint a ha

theorem sRect_cover : (Finset.univ : Finset (Fin 8)).biUnion (fun t => (sRect t).set) = Finset.univ :=
  cover_slots 6 sOff sz sOff_inb (by decide)

/-! ## The receive buffers in the four places where transfers land -/

/-- The first four transfers land in the one buffer, the last four in the other. -/
def tr (b : Bool) (k : Fin 4) : Fin 8 := if b then ⟨k.val, by omega⟩ else ⟨4 + k.val, by omega⟩

theorem dRect_disj (b : Bool) (k k' : Fin 4) (h : k ≠ k') : Disjoint (dRect (tr b k)).set (dRect (tr b k')).set := by
  have hall : ∀ (b : Bool) (k k' : Fin 4), k ≠ k' → ∃ a, dOff (tr b k) a + sz (tr b k) a ≤ dOff (tr b k') a ∨ dOff (tr b k') a + sz (tr b k') a ≤ dOff (tr b k) a := by decide
  obtain ⟨a, ha⟩ := hall b k k' h
  exact Rect.unit_disjoint a ha

theorem dRect_cover (b : Bool) : (Finset.univ : Finset (Fin 4)).biUnion (fun k => (dRect (tr b k)).set) = Finset.univ :=
  cover_slots 3 (fun k => dOff (tr b k)) (fun k => sz (tr b k)) (fun k => dOff_inb (tr b k)) (by revert b; decide)

/-! ## Cutting and putting together -/

/-- Device c owns a buffer at any contents. -/
abbrev anyOf (c : Dev nD) {sp : Space} {s : Shape} {e : EltTy} (m : Memref sig .tc sp s e) : sProp 𝕄 := iprop(∃ V, owns (c : Thread nD τ) m fullShare V)

/-- Each buffer is its pieces: the products, -/
theorem cut_y (c : Dev nD) : anyOf c yM ⊢ (iprop((∃ V, yDR c V) ∗ (∃ V, yDL c V) ∗ (∃ V, yYp c V) ∗ (∃ V, yXp c V) ∗ (∃ V, yOwn c V)) : sProp 𝕄) :=
  (owns_cut (c : Thread nD τ) yM fullShare (yRect c) (fun _ _ => rfl) (yRect_disj c) (yRect_cover c)).trans
    (BIBase.Entails.of_eq (bigSep_univ_eq_bigSepL ([0, 1, 2, 3, 4] : List (Fin 5)) (by decide) (by decide) _))

/-- the slots sent from, -/
theorem cut_s (c : Dev nD) : anyOf c sM ⊢ (iprop((∃ V, sFull 0 c V) ∗ (∃ V, sFull 1 c V) ∗ (∃ V, sFull 2 c V) ∗ (∃ V, sFull 3 c V) ∗ (∃ V, sFull 4 c V) ∗ (∃ V, sFull 5 c V)) : sProp 𝕄) :=
  (owns_cut (c : Thread nD τ) sM fullShare slotRect (fun _ _ => rfl) slotRect_disj slotRect_cover).trans
    (BIBase.Entails.of_eq (bigSep_univ_eq_bigSepL ([0, 1, 2, 3, 4, 5] : List (Fin 6)) (by decide) (by decide) _))

/-- the places in the two receive buffers. -/
theorem cut_a (c : Dev nD) : anyOf c aM ⊢ (landing true c : sProp 𝕄) :=
  (owns_cut (c : Thread nD τ) aM fullShare (fun k => dRect (tr true k)) (fun _ _ => rfl) (dRect_disj true) (dRect_cover true)).trans
    (BIBase.Entails.of_eq (bigSep_univ_eq_bigSepL ([0, 1, 2, 3] : List (Fin 4)) (by decide) (by decide) _))

theorem cut_b (c : Dev nD) : anyOf c bM ⊢ (landing false c : sProp 𝕄) :=
  (owns_cut (c : Thread nD τ) bM fullShare (fun k => dRect (tr false k)) (fun _ _ => rfl) (dRect_disj false) (dRect_cover false)).trans
    (BIBase.Entails.of_eq (bigSep_univ_eq_bigSepL ([0, 1, 2, 3] : List (Fin 4)) (by decide) (by decide) _))

/-- One of the result's four column blocks, as the program addresses it. -/
abbrev oPiece (k : Fin 4) (c : Dev nD) (V : Vec F S256x256 .f32) : sProp 𝕄 := piece oM ![0, 256 * k.val] S256x256.size (inb_quarter k) c V

/-- The result's buffer is its four column blocks. -/
theorem cut_o (c : Dev nD) : anyOf c oM ⊢ (iprop((∃ V, oPiece 0 c V) ∗ (∃ V, oPiece 1 c V) ∗ (∃ V, oPiece 2 c V) ∗ (∃ V, oPiece 3 c V)) : sProp 𝕄) :=
  (owns_cut (c : Thread nD τ) oM fullShare rOut (fun _ _ => rfl) rOut_disj rOut_cover).trans
    (BIBase.Entails.of_eq (bigSep_univ_eq_bigSepL ([0, 1, 2, 3] : List (Fin 4)) (by decide) (by decide) _))

variable (X : Dev nD → Vec F S1024x256 .f32) (W : Dev nD → Vec F S256x1024 .f32)

/-- And back: the pieces at any contents make the buffer, the products' -/
theorem glue_y (c : Dev nD) (V0 V1 : Vec F S256x512 .f32) (V2 V3 V4 : Vec F S256x1024 .f32) :
    iprop(yDR c V0 ∗ yDL c V1 ∗ yYp c V2 ∗ yXp c V3 ∗ yOwn c V4) ⊢ (anyOf c yM : sProp 𝕄) := by
  let Z : ∀ t : Fin 5, (yRect c t).shape.Idx → Elt F .f32 := fun t => match t with
    | 0 => V0 | 1 => V1 | 2 => V2 | 3 => V3 | 4 => V4
  have h := owns_glue (Ix := Unit) (Name := ℕ) (U := UU) (Lvl := ℕ) (c : Thread nD τ) yM fullShare (yRect c) (fun _ _ => rfl) (yRect_disj c) (yRect_cover c) Z
  rw [bigSep_univ_eq_bigSepL ([0, 1, 2, 3, 4] : List (Fin 5)) (by decide) (by decide)] at h
  exact BIBase.Entails.trans h (show owns (c : Thread nD τ) yM fullShare _ ⊢ (anyOf c yM : sProp 𝕄) by
    iintro H; iexists _; iexact H)

/-- and the others'; -/
theorem glue_s (c : Dev nD) :
    iprop(pay X W c (sndD 0) ∗ pay X W c (sndD 1) ∗ pay X W c (sndD 2) ∗ pay X W c (sndD 3) ∗ pay X W c (sndD 4) ∗ pay X W c (sndD 5)
      ∗ pay X W c (sndD 6) ∗ pay X W c (sndD 7)) ⊢ (anyOf c sM : sProp 𝕄) := by
  have h := owns_glue (Ix := Unit) (Name := ℕ) (U := UU) (Lvl := ℕ) (c : Thread nD τ) sM fullShare sRect (fun _ _ => rfl) sRect_disj sRect_cover (fun t => cont X W t c)
  rw [bigSep_univ_eq_bigSepL ([0, 1, 2, 3, 4, 5, 6, 7] : List (Fin 8)) (by decide) (by decide)] at h
  exact BIBase.Entails.trans h (show owns (c : Thread nD τ) sM fullShare _ ⊢ (anyOf c sM : sProp 𝕄) by
    iintro H; iexists _; iexact H)

theorem glue_a (c : Dev nD) :
    iprop(pay X W c (rcvD 0) ∗ pay X W c (rcvD 1) ∗ pay X W c (rcvD 2) ∗ pay X W c (rcvD 3)) ⊢ (anyOf c aM : sProp 𝕄) := by
  have h := owns_glue (Ix := Unit) (Name := ℕ) (U := UU) (Lvl := ℕ) (c : Thread nD τ) aM fullShare (fun k => dRect (tr true k)) (fun _ _ => rfl) (dRect_disj true) (dRect_cover true)
    (fun k => cont X W (tr true k) (peer (tr true k) c))
  rw [bigSep_univ_eq_bigSepL ([0, 1, 2, 3] : List (Fin 4)) (by decide) (by decide)] at h
  exact BIBase.Entails.trans h (show owns (c : Thread nD τ) aM fullShare _ ⊢ (anyOf c aM : sProp 𝕄) by
    iintro H; iexists _; iexact H)

theorem glue_b (c : Dev nD) :
    iprop(pay X W c (rcvD 4) ∗ pay X W c (rcvD 5) ∗ pay X W c (rcvD 6) ∗ pay X W c (rcvD 7)) ⊢ (anyOf c bM : sProp 𝕄) := by
  have h := owns_glue (Ix := Unit) (Name := ℕ) (U := UU) (Lvl := ℕ) (c : Thread nD τ) bM fullShare (fun k => dRect (tr false k)) (fun _ _ => rfl) (dRect_disj false) (dRect_cover false)
    (fun k => cont X W (tr false k) (peer (tr false k) c))
  rw [bigSep_univ_eq_bigSepL ([0, 1, 2, 3] : List (Fin 4)) (by decide) (by decide)] at h
  exact BIBase.Entails.trans h (show owns (c : Thread nD τ) bM fullShare _ ⊢ (anyOf c bM : sProp 𝕄) by
    iintro H; iexists _; iexact H)

/-- the four blocks of the result make the result. -/
theorem glue_o (c : Dev nD) :
    iprop(oPiece 0 c (out0 X W c) ∗ oPiece 1 c (out1 X W c) ∗ oPiece 2 c (out2 X W c) ∗ oPiece 3 c (out3 X W c))
      ⊢ (owns (c : Thread nD τ) oM fullShare (outAt X W c) : sProp 𝕄) := by
  have h := owns_glue (Ix := Unit) (Name := ℕ) (U := UU) (Lvl := ℕ) (c : Thread nD τ) oM fullShare rOut (fun _ _ => rfl) rOut_disj rOut_cover (outPiece X W c)
  rw [bigSep_univ_eq_bigSepL ([0, 1, 2, 3] : List (Fin 4)) (by decide) (by decide)] at h
  exact h

end Cert.KernelIdeal.Run

end
-- ==== Proof.KernelIdealRun.Body.lean ====
/-
  The whole body on one device: from its arguments, its buffers and its share of the protocol to the result, the buffers
  back and every semaphore at zero.
-/
module

public import proofs.«01_k».proof.Proof.KernelIdealRun.Slots

@[expose] public section

noncomputable section

namespace Cert.KernelIdeal.Run

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S1024x256 .f32) (W : Dev nD → Vec F S256x1024 .f32)
variable (K : Dev nD × Ck → ℕ)

/-- The credits of a list of duties, one by one. -/
def creds (c : Dev nD) : List Du → sProp 𝕄
  | [] => iprop(emp)
  | d :: l => iprop(crd c d ∗ creds c l)

theorem creds_of_due (c : Dev nD) (l : List Du) : cred (due c l) ⊢ (creds c l : sProp 𝕄) := by
  induction l with
  | nil => unfold creds; exact BIBase.Entails.of_eq cred_zero
  | cons d l ih =>
    unfold creds due crd
    have h := (cred_add (Name := ℕ) (U := UU) (Lvl := ℕ) (Val := Elt F) (due c l) (tallyAt (dcell c d) () (amt d))).1
    iintro H
    ihave H := h $$ H
    icases H with ⟨H1, H2⟩
    isplitl [H2]; · iexact H2
    iapply ih; iexact H1

/-- What device c begins with: its places and tokens at all semaphores, the credits, the arguments and the scratch buffers. -/
def bodyPre (c : Dev nD) : sProp 𝕄 :=
  iprop(records X W K ∗ levAts L lv ∗ owesE c owed ∗ (bigSep Finset.univ fun k : Ck => pos c k) ∗ (bigSep Finset.univ fun d : Du => tok c d) ∗ creds c owed
    ∗ xAll c (X c) ∗ wAll c (W c) ∗ anyOf c oM ∗ anyOf c yM ∗ anyOf c sM ∗ anyOf c aM ∗ anyOf c bM)

/-- What it ends with: nothing owed, the result, the scratch buffers, all semaphores at zero. -/
def bodyPost (c : Dev nD) : sProp 𝕄 :=
  iprop(owesE c [] ∗ (bigSep Finset.univ fun k : Ck => semVal (kcell (c, k)) 0)
    ∗ xAll c (X c) ∗ wAll c (W c) ∗ owns (c : Thread nD τ) oM fullShare (outAt X W c) ∗ anyOf c yM ∗ anyOf c sM ∗ anyOf c aM ∗ anyOf c bM)

def ckList : List Ck := [none, some (.inl 0), some (.inl 1), some (.inl 2), some (.inl 3), some (.inl 4), some (.inl 5), some (.inl 6), some (.inl 7),
  some (.inr 0), some (.inr 1), some (.inr 2), some (.inr 3), some (.inr 4), some (.inr 5), some (.inr 6), some (.inr 7)]
def duList : List Du := [barD false, barD true, sndD 0, sndD 1, sndD 2, sndD 3, sndD 4, sndD 5, sndD 6, sndD 7,
  rcvD 0, rcvD 1, rcvD 2, rcvD 3, rcvD 4, rcvD 5, rcvD 6, rcvD 7]

/-- The kernel's body, on device c. -/
theorem sound_body (c : Dev nD) : bodyPre X W K c ⊢ runs c (onBufs (cc0_body (F := F))) (fun _ => bodyPost X W c) := by
  rw [cc0_body_eq_skeleton]
  unfold cc0_body_skel
  rw [k0_part14_eq_skeleton]
  unfold k0_part14_skel
  dsimp only [onBufs]
  simp only [Prog.lift, Prog.bind_op, Prog.bind_ret, Prog.pure_eq_ret, Prog.bind_assoc]
  unfold bodyPre
  iintro ⟨#HR, #HL, HO, HP, HT, HC, Hx, Hw, Ho, Hy, Hs, Ha, Hb⟩
  ihave HP := (show (bigSep Finset.univ fun k : Ck => pos c k) ⊢ (iprop(pos c none ∗ pos c (some (.inl 0)) ∗ pos c (some (.inl 1)) ∗ pos c (some (.inl 2)) ∗ pos c (some (.inl 3)) ∗ pos c (some (.inl 4)) ∗ pos c (some (.inl 5)) ∗ pos c (some (.inl 6)) ∗ pos c (some (.inl 7)) ∗ pos c (some (.inr 0)) ∗ pos c (some (.inr 1)) ∗ pos c (some (.inr 2)) ∗ pos c (some (.inr 3)) ∗ pos c (some (.inr 4)) ∗ pos c (some (.inr 5)) ∗ pos c (some (.inr 6)) ∗ pos c (some (.inr 7))) : sProp 𝕄)
    from BIBase.Entails.of_eq (bigSep_univ_eq_bigSepL ckList (by decide) (by decide) _)) $$ HP
  icases HP with ⟨Pb, Ps0, Ps1, Ps2, Ps3, Ps4, Ps5, Ps6, Ps7, Pr0, Pr1, Pr2, Pr3, Pr4, Pr5, Pr6, Pr7⟩
  ihave HT := (show (bigSep Finset.univ fun d : Du => tok c d) ⊢ (iprop(tok c (barD false) ∗ tok c (barD true) ∗ tok c (sndD 0) ∗ tok c (sndD 1) ∗ tok c (sndD 2) ∗ tok c (sndD 3) ∗ tok c (sndD 4) ∗ tok c (sndD 5) ∗ tok c (sndD 6) ∗ tok c (sndD 7) ∗ tok c (rcvD 0) ∗ tok c (rcvD 1) ∗ tok c (rcvD 2) ∗ tok c (rcvD 3) ∗ tok c (rcvD 4) ∗ tok c (rcvD 5) ∗ tok c (rcvD 6) ∗ tok c (rcvD 7)) : sProp 𝕄)
    from BIBase.Entails.of_eq (bigSep_univ_eq_bigSepL duList (by decide) (by decide) _)) $$ HT
  icases HT with ⟨TbF, TbT, Ts0, Ts1, Ts2, Ts3, Ts4, Ts5, Ts6, Ts7, Tr0, Tr1, Tr2, Tr3, Tr4, Tr5, Tr6, Tr7⟩
  ihave HC := (show creds c owed ⊢ (iprop(crd c (barD false) ∗ crd c (barD true) ∗ crd c (rcvD 0) ∗ crd c (rcvD 4) ∗ crd c (rcvD 5) ∗ crd c (rcvD 1) ∗ crd c (rcvD 6) ∗ crd c (rcvD 7) ∗ crd c (rcvD 2) ∗ crd c (rcvD 3) ∗ emp) : sProp 𝕄) from .rfl) $$ HC
  icases HC with ⟨CbF, CbT, Cr0, Cr4, Cr5, Cr1, Cr6, Cr7, Cr2, Cr3, -⟩
  ihave Hy := (cut_y c) $$ Hy
  icases Hy with ⟨HyDR, HyDL, HyYp, HyXp, HyOwn⟩
  ihave Hs := (cut_s c) $$ Hs
  icases Hs with ⟨Hs0, Hs1, Hs2, Hs3, Hs4, Hs5⟩
  ihave La := (cut_a c) $$ Ha
  ihave Lb := (cut_b c) $$ Hb
  ihave Ho := (cut_o c) $$ Ho
  icases Ho with ⟨Ho0, Ho1, Ho2, Ho3⟩
  iapply (part1 X W K c _) $$ [HO TbF TbT Lb La Hx Hw HyDR Hs0]
  · isplitr; · iexact HR
    isplitl [HO]; · iexact HO
    isplitl [TbF]; · iexact TbF
    isplitl [TbT]; · iexact TbT
    isplitl [Lb]; · iexact Lb
    isplitl [La]; · iexact La
    isplitl [Hx]; · iexact Hx
    isplitl [Hw]; · iexact Hw
    isplitl [HyDR]; · iexact HyDR
    iexact Hs0
  iintro %v2 %v3 %v4 %v6 ⟨HO, Hx, Hw, HyDR, Hs0⟩
  dsimp only
  iapply (part2 X W K c _ _ _) $$ [HO Pb CbF CbT Ts0 Tr0 Hx Hw Hs0 HyDL Hs2]
  · isplitr; · iexact HR
    isplitr; · iexact HL
    isplitl [HO]; · iexact HO
    isplitl [Pb]; · iexact Pb
    isplitl [CbF]; · iexact CbF
    isplitl [CbT]; · iexact CbT
    isplitl [Ts0]; · iexact Ts0
    isplitl [Tr0]; · iexact Tr0
    isplitl [Hx]; · iexact Hx
    isplitl [Hw]; · iexact Hw
    isplitl [Hs0]; · iexact Hs0
    isplitl [HyDL]; · iexact HyDL
    iexact Hs2
  iintro ⟨HO, Zb, Cs0, Ly, D1, D2, D3, Hx, Hw, HyDL, Hs2⟩
  ihave Ly := (show landing false (yp c) ⊢ iprop((∃ Y, dSlot (F := F) 4 (yp c) Y) ∗ (∃ Y, dSlot 5 (yp c) Y) ∗ (∃ Y, dSlot 6 (yp c) Y) ∗ (∃ Y, dSlot 7 (yp c) Y)) from .rfl) $$ Ly
  icases Ly with ⟨D4, D5, D6, D7⟩
  iapply (part3 X W K c _ _) $$ [HO Hs2 D4 Ts4 Tr4 Hx Hw HyYp Hs3]
  · isplitr; · iexact HR
    isplitl [HO]; · iexact HO
    isplitl [Hs2]; · iexact Hs2
    isplitl [D4]; · iexact D4
    isplitl [Ts4]; · iexact Ts4
    isplitl [Tr4]; · iexact Tr4
    isplitl [Hx]; · iexact Hx
    isplitl [Hw]; · iexact Hw
    isplitl [HyYp]; · iexact HyYp
    iexact Hs3
  iintro ⟨HO, Cs4, Hx, Hw, HyYp, Hs3⟩
  iapply (part4 X W K c _ _) $$ [HO Hs3 D5 Ts5 Tr5 Hx Hw HyXp Hs1]
  · isplitr; · iexact HR
    isplitl [HO]; · iexact HO
    isplitl [Hs3]; · iexact Hs3
    isplitl [D5]; · iexact D5
    isplitl [Ts5]; · iexact Ts5
    isplitl [Tr5]; · iexact Tr5
    isplitl [Hx]; · iexact Hx
    isplitl [Hw]; · iexact Hw
    isplitl [HyXp]; · iexact HyXp
    iexact Hs1
  iintro ⟨HO, Cs5, Hx, Hw, HyXp, Hs1⟩
  iapply (part5 X W K c _ _ _ _) $$ [HO Hs1 D1 Ts1 Tr1 Hx Hw HyOwn Pr0 Cr0 HyYp]
  · isplitr; · iexact HR
    isplitr; · iexact HL
    isplitl [HO]; · iexact HO
    isplitl [Hs1]; · iexact Hs1
    isplitl [D1]; · iexact D1
    isplitl [Ts1]; · iexact Ts1
    isplitl [Tr1]; · iexact Tr1
    isplitl [Hx]; · iexact Hx
    isplitl [Hw]; · iexact Hw
    isplitl [HyOwn]; · iexact HyOwn
    isplitl [Pr0]; · iexact Pr0
    isplitl [Cr0]; · iexact Cr0
    iexact HyYp
  iintro ⟨HO, Cs1, Hx, Hw, HyOwn, Zr0, G0, HyYp⟩
  iapply (part6 X W K c _ _) $$ [HO Hs5 D6 Ts6 Tr6 D7 Ts7 Tr7]
  · isplitr; · iexact HR
    isplitl [HO]; · iexact HO
    isplitl [Hs5]; · iexact Hs5
    isplitl [D6]; · iexact D6
    isplitl [Ts6]; · iexact Ts6
    isplitl [Tr6]; · iexact Tr6
    isplitl [D7]; · iexact D7
    isplitl [Ts7]; · iexact Ts7
    iexact Tr7
  iintro ⟨HO, Cs6, Cs7⟩
  iapply (part7 X W K c _ _) $$ [HO Pr4 Cr4 HyXp Hs4 D2 Ts2 Tr2]
  · isplitr; · iexact HR
    isplitr; · iexact HL
    isplitl [HO]; · iexact HO
    isplitl [Pr4]; · iexact Pr4
    isplitl [Cr4]; · iexact Cr4
    isplitl [HyXp]; · iexact HyXp
    isplitl [Hs4]; · iexact Hs4
    isplitl [D2]; · iexact D2
    isplitl [Ts2]; · iexact Ts2
    iexact Tr2
  iintro ⟨HO, Zr4, G4, HyXp, Cs2, Hs4b⟩
  iapply (part8 X W K c _ _ _ _) $$ [HO Hs4b D3 Ts3 Tr3 Pr5 Cr5 Pr2 Cr2 HyOwn]
  · isplitr; · iexact HR
    isplitr; · iexact HL
    isplitl [HO]; · iexact HO
    isplitl [Hs4b]; · iexact Hs4b
    isplitl [D3]; · iexact D3
    isplitl [Ts3]; · iexact Ts3
    isplitl [Tr3]; · iexact Tr3
    isplitl [Pr5]; · iexact Pr5
    isplitl [Cr5]; · iexact Cr5
    isplitl [Pr2]; · iexact Pr2
    isplitl [Cr2]; · iexact Cr2
    iexact HyOwn
  iintro ⟨HO, Cs3, Zr5, G5, Zr2, G2, HyOwn⟩
  iapply (part9 X W K c _ _ _) $$ [HO G2 Ho0 Pr3 Cr3 HyOwn G5]
  · isplitr; · iexact HR
    isplitr; · iexact HL
    isplitl [HO]; · iexact HO
    isplitl [G2]; · iexact G2
    isplitl [Ho0]; · iexact Ho0
    isplitl [Pr3]; · iexact Pr3
    isplitl [Cr3]; · iexact Cr3
    isplitl [HyOwn]; · iexact HyOwn
    iexact G5
  iintro ⟨HO, G2, Ho0, Zr3, G3, HyOwn, G5⟩
  iapply (part10 X W K c _ _ _) $$ [HO G3 Ho1 Pr1 Cr1]
  · isplitr; · iexact HR
    isplitr; · iexact HL
    isplitl [HO]; · iexact HO
    isplitl [G3]; · iexact G3
    isplitl [Ho1]; · iexact Ho1
    isplitl [Pr1]; · iexact Pr1
    iexact Cr1
  iintro ⟨HO, G3, Ho1, Zr1, G1⟩
  iapply (part11 X W K c _ _ _) $$ [HO Pr6 Cr6 HyOwn G1 Ho2]
  · isplitr; · iexact HR
    isplitr; · iexact HL
    isplitl [HO]; · iexact HO
    isplitl [Pr6]; · iexact Pr6
    isplitl [Cr6]; · iexact Cr6
    isplitl [HyOwn]; · iexact HyOwn
    isplitl [G1]; · iexact G1
    iexact Ho2
  iintro ⟨HO, Zr6, G6, HyOwn, G1, Ho2⟩
  iapply (part12 X W K c _ _) $$ [HO Pr7 Cr7 HyOwn G1 Ho3 Ps0 Cs0]
  · isplitr; · iexact HR
    isplitr; · iexact HL
    isplitl [HO]; · iexact HO
    isplitl [Pr7]; · iexact Pr7
    isplitl [Cr7]; · iexact Cr7
    isplitl [HyOwn]; · iexact HyOwn
    isplitl [G1]; · iexact G1
    isplitl [Ho3]; · iexact Ho3
    isplitl [Ps0]; · iexact Ps0
    iexact Cs0
  iintro ⟨HO, Zr7, G7, HyOwn, G1, Ho3, Zs0, S0⟩
  iapply (part13 X W K c _) $$ [HO Ps4 Cs4 Ps5 Cs5 Ps1 Cs1]
  · isplitr; · iexact HR
    isplitr; · iexact HL
    isplitl [HO]; · iexact HO
    isplitl [Ps4]; · iexact Ps4
    isplitl [Cs4]; · iexact Cs4
    isplitl [Ps5]; · iexact Ps5
    isplitl [Cs5]; · iexact Cs5
    isplitl [Ps1]; · iexact Ps1
    iexact Cs1
  iintro ⟨HO, Zs4, S4, Zs5, S5, Zs1, S1⟩
  iapply (wp_wait_own X W K (.inl 6) c (owed.drop 10) (by decide)
    ((sM.slice (Rect.unit (s := S6x256x512) ![5, 0, 0] S1x256x256.size inb_S6x256x512_S1x256x256_5_0_0) (fun _ => rfl)).squeeze S256x256 squeezes_S1x256x256_S256x256) rfl rfl) $$ [HO Ps6 Cs6]
  · isplitr; · iexact HR
    isplitr; · iexact HL
    isplitl [HO]; · iexact HO
    isplitl [Ps6]; · iexact Ps6
    iexact Cs6
  iintro ⟨HO, Zs6, S6⟩
  iapply (wp_wait_own X W K (.inl 7) c (owed.drop 10) (by decide)
    ((sM.slice (Rect.unit (s := S6x256x512) ![5, 0, 256] S1x256x256.size inb_S6x256x512_S1x256x256_5_0_256) (fun _ => rfl)).squeeze S256x256 squeezes_S1x256x256_S256x256) rfl rfl) $$ [HO Ps7 Cs7]
  · isplitr; · iexact HR
    isplitr; · iexact HL
    isplitl [HO]; · iexact HO
    isplitl [Ps7]; · iexact Ps7
    iexact Cs7
  iintro ⟨HO, Zs7, S7⟩
  iapply (wp_wait_own X W K (.inl 2) c (owed.drop 10) (by decide)
    ((sM.slice (Rect.unit (s := S6x256x512) ![4, 0, 0] S1x256x256.size inb_S6x256x512_S1x256x256_4_0_0) (fun _ => rfl)).squeeze S256x256 squeezes_S1x256x256_S256x256) rfl rfl) $$ [HO Ps2 Cs2]
  · isplitr; · iexact HR
    isplitr; · iexact HL
    isplitl [HO]; · iexact HO
    isplitl [Ps2]; · iexact Ps2
    iexact Cs2
  iintro ⟨HO, Zs2, S2⟩
  iapply (wp_wait_own X W K (.inl 3) c (owed.drop 10) (by decide)
    ((sM.slice (Rect.unit (s := S6x256x512) ![4, 0, 256] S1x256x256.size inb_S6x256x512_S1x256x256_4_0_256) (fun _ => rfl)).squeeze S256x256 squeezes_S1x256x256_S256x256) rfl rfl) $$ [HO Ps3 Cs3]
  · isplitr; · iexact HR
    isplitr; · iexact HL
    isplitl [HO]; · iexact HO
    isplitl [Ps3]; · iexact Ps3
    iexact Cs3
  iintro ⟨HO, Zs3, S3⟩
  simp only [runs, wp_ret]
  imodintro
  ihave G0 := (show piece aM ![0, 0, 0] S1x256x512.size inb_S3x256x512_S1x256x512_0_0_0 c (sentDR X W (xp c)) ⊢ pay X W c (rcvD 0) from .rfl) $$ G0
  ihave G1 := (show piece aM ![1, 0, 0] S1x256x512.size inb_S3x256x512_S1x256x512_1_0_0 c (sentXp X W (xp c)) ⊢ pay X W c (rcvD 1) from .rfl) $$ G1
  ihave G2 := (show piece aM ![2, 0, 0] S1x256x256.size inb_S3x256x512_S1x256x256_2_0_0 c (slotHalf (sumXp X W (xp c)) 0) ⊢ pay X W c (rcvD 2) from .rfl) $$ G2
  ihave G3 := (show piece aM ![2, 0, 256] S1x256x256.size inb_S3x256x512_S1x256x256_2_0_256 c (slotHalf (sumXp X W (xp c)) 1) ⊢ pay X W c (rcvD 3) from .rfl) $$ G3
  ihave G4 := (show piece bM ![0, 0, 0] S1x256x512.size inb_S3x256x512_S1x256x512_0_0_0 c (sentDL X W (yp c)) ⊢ pay X W c (rcvD 4) from .rfl) $$ G4
  ihave G5 := (show piece bM ![1, 0, 0] S1x256x512.size inb_S3x256x512_S1x256x512_1_0_0 c (sentYp X W (yp c)) ⊢ pay X W c (rcvD 5) from .rfl) $$ G5
  ihave G6 := (show piece bM ![2, 0, 0] S1x256x256.size inb_S3x256x512_S1x256x256_2_0_0 c (slotHalf (sumYp X W (yp c)) 0) ⊢ pay X W c (rcvD 6) from .rfl) $$ G6
  ihave G7 := (show piece bM ![2, 0, 256] S1x256x256.size inb_S3x256x512_S1x256x256_2_0_256 c (slotHalf (sumYp X W (yp c)) 1) ⊢ pay X W c (rcvD 7) from .rfl) $$ G7
  ihave Ho := (glue_o X W c) $$ [Ho0 Ho1 Ho2 Ho3]
  · isplitl [Ho0]; · iexact Ho0
    isplitl [Ho1]; · iexact Ho1
    isplitl [Ho2]; · iexact Ho2
    iexact Ho3
  ihave Hy := (glue_y c (prodDR X W c) (prodDL X W c) (prodYp X W c) (prodXp X W c) (prodOwn X W c)) $$ [HyDR HyDL HyYp HyXp HyOwn]
  · isplitl [HyDR]; · iexact HyDR
    isplitl [HyDL]; · iexact HyDL
    isplitl [HyYp]; · iexact HyYp
    isplitl [HyXp]; · iexact HyXp
    iexact HyOwn
  ihave Hs := (glue_s X W c) $$ [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  ihave Ha := (glue_a X W c) $$ [G0 G1 G2 G3]
  · isplitl [G0]; · iexact G0
    isplitl [G1]; · iexact G1
    isplitl [G2]; · iexact G2
    iexact G3
  ihave Hb := (glue_b X W c) $$ [G4 G5 G6 G7]
  · isplitl [G4]; · iexact G4
    isplitl [G5]; · iexact G5
    isplitl [G6]; · iexact G6
    iexact G7
  unfold bodyPost
  have hz : (iprop(semVal (kcell (c, none)) 0 ∗ semVal (kcell (c, (some (.inl 0)))) 0 ∗ semVal (kcell (c, (some (.inl 1)))) 0 ∗ semVal (kcell (c, (some (.inl 2)))) 0 ∗ semVal (kcell (c, (some (.inl 3)))) 0 ∗ semVal (kcell (c, (some (.inl 4)))) 0 ∗ semVal (kcell (c, (some (.inl 5)))) 0 ∗ semVal (kcell (c, (some (.inl 6)))) 0 ∗ semVal (kcell (c, (some (.inl 7)))) 0 ∗ semVal (kcell (c, (some (.inr 0)))) 0 ∗ semVal (kcell (c, (some (.inr 1)))) 0 ∗ semVal (kcell (c, (some (.inr 2)))) 0 ∗ semVal (kcell (c, (some (.inr 3)))) 0 ∗ semVal (kcell (c, (some (.inr 4)))) 0 ∗ semVal (kcell (c, (some (.inr 5)))) 0 ∗ semVal (kcell (c, (some (.inr 6)))) 0 ∗ semVal (kcell (c, (some (.inr 7)))) 0) : sProp 𝕄) ⊢ bigSep Finset.univ fun k : Ck => semVal (kcell (c, k)) 0 :=
    by rw [bigSep_univ_eq_bigSepL ckList (by decide) (by decide)]; exact .rfl
  isplitl [HO]; · iexact HO
  isplitl [Zb Zs0 Zs1 Zs2 Zs3 Zs4 Zs5 Zs6 Zs7 Zr0 Zr1 Zr2 Zr3 Zr4 Zr5 Zr6 Zr7]
  · iapply hz
    isplitl [Zb]; · iexact Zb
    isplitl [Zs0]; · iexact Zs0
    isplitl [Zs1]; · iexact Zs1
    isplitl [Zs2]; · iexact Zs2
    isplitl [Zs3]; · iexact Zs3
    isplitl [Zs4]; · iexact Zs4
    isplitl [Zs5]; · iexact Zs5
    isplitl [Zs6]; · iexact Zs6
    isplitl [Zs7]; · iexact Zs7
    isplitl [Zr0]; · iexact Zr0
    isplitl [Zr1]; · iexact Zr1
    isplitl [Zr2]; · iexact Zr2
    isplitl [Zr3]; · iexact Zr3
    isplitl [Zr4]; · iexact Zr4
    isplitl [Zr5]; · iexact Zr5
    isplitl [Zr6]; · iexact Zr6
    iexact Zr7
  isplitl [Hx]; · iexact Hx
  isplitl [Hw]; · iexact Hw
  isplitl [Ho]; · iexact Ho
  isplitl [Hy]; · iexact Hy
  isplitl [Hs]; · iexact Hs
  isplitl [Ha]; · iexact Ha
  iexact Hb

end Cert.KernelIdeal.Run

end
-- ==== Proof.KernelIdealRun.Launch.lean ====
/-
  The launch: the ghost state of all semaphores of all devices is allocated at once, each token dealt to the device that
  pays its duty, and every execution of the program runs the body on each device between staging the two arguments and
  writing back the result.
-/
module

public import proofs.«01_k».proof.Proof.KernelIdealRun.Body
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.KernelIdeal.Run

open Cert.KernelIdeal Cert.KernelIdeal.Gen Cert.Pieces
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## The ghost state at launch -/

section

variable (X : Dev nD → Vec F S1024x256 .f32) (W : Dev nD → Vec F S256x1024 .f32)

theorem kcell_inj : Function.Injective (kcell : Dev nD × Ck → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The semaphores the protocol runs on, and the token of each duty of each. -/
def protoCells : Finset (GSem nD τ sig) := Finset.univ.map ⟨kcell, kcell_inj⟩
abbrev tokAt (cd : Dev nD × Du) : GSem nD τ sig × ℕ × Du := (dcell cd.1 cd.2, 0, cd.2)
theorem tokAt_inj : Function.Injective tokAt := by
  rintro ⟨c, d⟩ ⟨c', d'⟩ h
  have h1 : c = c' := congrArg (fun g : GSem nD τ sig × ℕ × Du => g.1.1.1) h
  have h2 : d = d' := congrArg (fun g : GSem nD τ sig × ℕ × Du => g.2.2) h
  rw [h1, h2]
def protoToks : Finset (GSem nD τ sig × ℕ × Du) := Finset.univ.map ⟨tokAt, tokAt_inj⟩

def u₀ : UU := (initOf (Pipeline.cells cfgs cellOf_inj) (Pipeline.launchToks cfgs cellOf_inj), initOf protoCells protoToks)

/-- What the launch deals device c: its semaphores' ghost state, and the tokens of the duties paid onto them. -/
def G (c : Dev nD) : sProp 𝕄 :=
  iprop((bigSep Finset.univ fun k : Ck => roundState ER (rd X W) (kcell (c, k)) 0)
    ∗ (bigSep Finset.univ fun k : Ck => iprop(pos c k ∗ reached ER (kcell (c, k)) 0))
    ∗ bigSep Finset.univ fun d : Du => dutyTok ER (dcell c d) 0 d)

/-- What device c runs on: the records, its places, and the tokens of the duties it pays. -/
def ghost (K : Dev nD × Ck → ℕ) (c : Dev nD) : sProp 𝕄 :=
  iprop(records X W K ∗ (bigSep Finset.univ fun k : Ck => pos c k) ∗ bigSep Finset.univ fun d : Du => tok c d)

theorem fund_proto : BI.own (ER (initOf protoCells protoToks)) ⊢ (|==> bigSep Finset.univ (G X W) : sProp 𝕄) := by
  have hX (Φ : GSem nD τ sig → sProp 𝕄) : bigSep protoCells Φ = bigSep Finset.univ fun c : Dev nD => bigSep Finset.univ fun k : Ck => Φ (kcell (c, k)) := by
    unfold protoCells; rw [bigSep_map, bigSep_univ_prod]; rfl
  have hT : bigSep protoToks (fun x => (dutyTok ER x.1 x.2.1 x.2.2 : sProp 𝕄))
      = bigSep Finset.univ fun c : Dev nD => bigSep Finset.univ fun d : Du => dutyTok ER (dcell c d) 0 d := by
    unfold protoToks; rw [bigSep_map, bigSep_univ_prod]; rfl
  have hG : bigSep Finset.univ (G X W) = (iprop((bigSep Finset.univ fun c : Dev nD => bigSep Finset.univ fun k : Ck => roundState ER (rd X W) (kcell (c, k)) 0)
      ∗ ((bigSep Finset.univ fun c : Dev nD => bigSep Finset.univ fun k : Ck => atPos ER (kcell (c, k)) 0 ∅ 0)
        ∗ bigSep Finset.univ fun c : Dev nD => bigSep Finset.univ fun k : Ck => reached ER (kcell (c, k)) 0)
      ∗ bigSep Finset.univ fun c : Dev nD => bigSep Finset.univ fun d : Du => dutyTok ER (dcell c d) 0 d) : sProp 𝕄) := by
    unfold G pos; simp only [bigSep_sep']
  rw [hG, ← hX fun g => roundState ER (rd X W) g 0, ← hX fun g => atPos ER g 0 ∅ 0, ← hX fun g => reached ER g 0, ← hT]
  iintro H
  imod (Rounds.fund ER (rd X W) protoCells protoToks) $$ H with ⟨Hst, Hr, Hat, Htok⟩
  imodintro
  isplitl [Hst]; · iexact Hst
  isplitl [Hat Hr]
  · isplitl [Hat]; · iexact Hat
    iexact Hr
  iexact Htok

/-- A device's semaphores are the barrier, the one the launch does not scope, and the transfers'. -/
theorem sems_eq (c : Dev nD) : (bigSep Finset.univ fun k : Ck => semVal (kcell (c, k)) 0 : sProp 𝕄)
    = iprop(unscopedSems0 c ∗ Pipeline.ownSems0 (Ix := Unit) (Name := ℕ) (U := UU) (Lvl := ℕ) (Val := Elt F) (τ := τ) osem c) := by
  rw [bigSep_univ_eq_bigSepL ckList (by decide) (by decide),
    Pipeline.ownSems0_eq_of_list c osem [.inl 0, .inl 1, .inl 2, .inl 3, .inl 4, .inl 5, .inl 6, .inl 7,
      .inr 0, .inr 1, .inr 2, .inr 3, .inr 4, .inr 5, .inr 6, .inr 7] (by decide) (by decide)]
  unfold unscopedSems0
  rw [bigSep_eq_bigSepL_of_eq [SemLoc.reg barS] (by decide) (by decide)]
  rfl

/-- Each device's semaphores at zero and their ghost state make their invariants. -/
theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k : Ck => iprop(∃ κ : ℕ, cellInv ER (rd X W) κ (kcell (c, k))))
          ∗ (bigSep Finset.univ fun k : Ck => iprop(pos c k ∗ reached ER (kcell (c, k)) 0))
          ∗ bigSep Finset.univ fun d : Du => dutyTok ER (dcell c d) 0 d) := by
  have h : iprop((bigSep Finset.univ fun k : Ck => semVal (kcell (c, k)) 0) ∗ bigSep Finset.univ fun k : Ck => roundState ER (rd X W) (kcell (c, k)) 0)
      ⊢ (|={Set.univ}=> bigSep Finset.univ fun k : Ck => iprop(∃ κ : ℕ, cellInv ER (rd X W) κ (kcell (c, k))) : sProp 𝕄) := by
    rw [← bigSep_sep']
    exact (bigSep_mono fun k _ => (Rounds.body_intro ER (rd X W) (kcell (c, k))).trans inv_alloc).trans (bigSep_fupd _ _)
  unfold G
  iintro ⟨Hos, Hus, Hst, Hat, Htok⟩
  imod h $$ [Hos Hus Hst] with Hinv
  · isplitr [Hst]
    · rw [sems_eq]
      isplitl [Hus]; · iexact Hus
      iexact Hos
    · iexact Hst
  imodintro
  isplitl [Hinv]; · iexact Hinv
  isplitl [Hat]; · iexact Hat
  iexact Htok

/-- Each token goes to the device that pays its duty. -/
theorem toks_dealt : (bigSep Finset.univ fun c : Dev nD => bigSep Finset.univ fun d : Du => (dutyTok ER (dcell c d) 0 d : sProp 𝕄))
    = bigSep Finset.univ fun c : Dev nD => bigSep Finset.univ fun d : Du => tok c d := by
  rw [bigSep_univ_comm, bigSep_univ_comm (fun (c : Dev nD) (d : Du) => tok c d)]
  exact bigSep_congr fun d _ => bigSep_univ_equiv (tgtE d) fun c : Dev nD => dutyTok ER (dcell c d) 0 d

theorem regroup :
    (bigSep Finset.univ fun c : Dev nD => iprop((bigSep Finset.univ fun k : Ck => iprop(∃ κ : ℕ, cellInv ER (rd X W) κ (kcell (c, k))))
          ∗ (bigSep Finset.univ fun k : Ck => iprop(pos c k ∗ reached ER (kcell (c, k)) 0))
          ∗ bigSep Finset.univ fun d : Du => dutyTok ER (dcell c d) 0 d) : sProp 𝕄)
      ⊢ bigSep Finset.univ fun c : Dev nD => iprop(∃ K, ghost X W K c) := by
  rw [bigSep_sep', bigSep_sep', toks_dealt, ← bigSep_univ_prod (fun ck : Dev nD × Ck => iprop(∃ κ : ℕ, cellInv ER (rd X W) κ (kcell ck))),
    bigSep_congr (s := Finset.univ) (fun (c : Dev nD) _ => bigSep_sep' Finset.univ (fun k : Ck => (pos c k : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (rd X W) κ (kcell ck) : sProp 𝕄))) $$ HI
  icases HK with ⟨%K, #HI⟩
  iapply (bigSep_with_persistent (R := records X W K)
    (Φ := fun c : Dev nD => iprop((bigSep Finset.univ fun k : Ck => pos c k) ∗ bigSep Finset.univ fun d : Du => tok c d))
    (fun c _ => show _ ⊢ iprop(∃ K, ghost X W K c) from by unfold ghost; iintro H; iexists K; iexact H))
  isplitr
  · unfold records
    isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c
      ∗ unscopedSems0 c ∗ G X W c) : sProp 𝕄)
    ⊢ |={Set.univ}=> bigSep Finset.univ fun c : Dev nD => iprop(∃ K, ghost X W K c) :=
  ((bigSep_mono fun c _ => core_alloc X W c).trans (bigSep_fupd _ _)).trans (BI.fupd_mono (regroup X W))

theorem launch_creds (c : Dev nD) : (Pipeline.launchCred (fun d => owe d owed) c : sProp 𝕄) ⊢ creds c owed := by
  rw [Pipeline.launchCred_of_sum _ (fun d => due d owed) (sum_owe owed) (fun d g => due_at) c]
  exact creds_of_due c owed

end

/-! ## The region's data -/

variable (m : (ℓ : Loc nD τ sig) → Buf (Elt F) ℓ) (ρ : Dev nD → PrngReg)

/-- The arguments as each device stages them. -/
def xIn (c : Dev nD) : Vec F S1024x256 .f32 := m ((c : Thread nD τ).loc main_arg0)
def wIn (c : Dev nD) : Vec F S256x1024 .f32 := m ((c : Thread nD τ).loc main_arg1)

/-- Each window's one block is its whole array. -/
theorem read_x (f : Vec F S1024x256 .f32) : (win0_0.blk t0_0).view.read (Elt F) f = f :=
  Memref.read_access_unit_zero (Elt F) main_arg0 (funext fun a => by fin_cases a <;> decide) (fun a => by fin_cases a <;> decide) f
theorem read_w (f : Vec F S256x1024 .f32) : (win0_1.blk t0_0).view.read (Elt F) f = f :=
  Memref.read_access_unit_zero (Elt F) main_arg1 (funext fun a => by fin_cases a <;> decide) (fun a => by fin_cases a <;> decide) f
theorem read_o (f : Vec F S256x1024 .f32) : (win0_2.blk t0_0).view.read (Elt F) f = f :=
  Memref.read_access_unit_zero (Elt F) main_v1 (funext fun a => by fin_cases a <;> decide) (fun a => by fin_cases a <;> decide) f

def start (c : Dev nD) : sProp 𝕄 := iprop((∃ K, ghost (xIn m) (wIn m) K c) ∗ creds c owed ∗ levAts L lv)
def scratch (c : Dev nD) : sProp 𝕄 := iprop(anyOf c yM ∗ anyOf c sM ∗ anyOf c aM ∗ anyOf c bM)
def Φ₀ (c : Dev nD) : sProp 𝕄 := iprop(start m c ∗ scratch c)
def Φ₁ (c : Dev nD) : sProp 𝕄 := iprop(scratch c ∗ bigSep Finset.univ fun k : Ck => semVal (kcell (c, k)) 0)

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wIn m c
    | ⟨2, _⟩ => outAt (xIn m) (wIn m) c
  Φ t := match t with
    | ⟨0, _⟩ => Φ₀ m c
    | ⟨_ + 1, _⟩ => Φ₁ c
  q _ := fullShare
  owed t := match t with
    | ⟨0, _⟩ => owe c owed
    | ⟨_ + 1, _⟩ => 0

theorem scratch_eq (c : Dev nD) : (scratch c : sProp 𝕄) = Pipeline.scopedRest spec0 c := by
  rw [scopedRest0_eq]
  unfold scratch anyOf
  simp only [owns_whole]
  rfl

set_option maxRecDepth 4000 in
theorem body_obligation (c : Dev nD) : BodyObligation (dats (F := F) m 0 c) (defs₀ (F := F)) 𝒱₀ () Set.univ := fun t => by
  rw [fin_N0 t]
  rw [bigSep_W0, bigSep_W0]
  show iprop(Φ₀ m c ∗ (dats m 0 c).owesAt () t0_0.castSucc
      ∗ (∃ d, owns (c : Thread nD τ) xM fullShare ((dats m 0 c).before (0 : Fin 3) t0_0 d))
      ∗ (∃ d, owns (c : Thread nD τ) wM fullShare ((dats m 0 c).before (1 : Fin 3) t0_0 d))
      ∗ (∃ d, owns (c : Thread nD τ) oM fullShare ((dats m 0 c).before (2 : Fin 3) t0_0 d)))
    ⊢ runs c (onBufs (cc0_body (F := F))) (fun _ => iprop(Φ₁ c ∗ (dats m 0 c).owesAt () t0_0.succ
      ∗ owns (c : Thread nD τ) xM fullShare (xIn m c) ∗ owns (c : Thread nD τ) wM fullShare (wIn m c)
      ∗ owns (c : Thread nD τ) oM fullShare (outAt (xIn m) (wIn m) c)))
  have h0 : ∀ d, (dats m 0 c).before (0 : Fin 3) t0_0 d = xIn m c := fun d => by
    unfold Dat.before; rw [if_pos (fetch0_0 t0_0)]; exact read_x (xIn m c)
  have h1 : ∀ d, (dats m 0 c).before (1 : Fin 3) t0_0 d = wIn m c := fun d => by
    unfold Dat.before; rw [if_pos (fetch0_1 t0_0)]; exact read_w (wIn m c)
  have hpost : bodyPost (xIn m) (wIn m) c ⊢ iprop(Φ₁ c ∗ (dats m 0 c).owesAt () t0_0.succ
      ∗ owns (c : Thread nD τ) xM fullShare (xIn m c) ∗ owns (c : Thread nD τ) wM fullShare (wIn m c)
      ∗ owns (c : Thread nD τ) oM fullShare (outAt (xIn m) (wIn m) c)) := by
    unfold bodyPost Φ₁ scratch owesE Dat.owesAt Pipeline.owesWithin
    rw [show (dats m 0 c).owed t0_0.succ = owe c [] from rfl]
    iintro ⟨⟨%Ws, HO⟩, Hz, Hx, Hw, Ho, Hs⟩
    isplitl [Hs Hz]
    · isplitl [Hs]; · iexact Hs
      iexact Hz
    isplitl [HO]
    · iexists Ws
      isplitr; · ipureintro; exact fun _ _ => Or.inl trivial
      iexact HO
    isplitl [Hx]; · iexact Hx
    isplitl [Hw]; · iexact Hw
    iexact Ho
  have hbody (K) := (sound_body (xIn m) (wIn m) K c).trans (wp_mono frame (wpE (defs₀ (F := F)) 𝒱₀ (c : Thread nD τ) none) Set.univ fun _ => hpost)
  unfold Φ₀ start ghost scratch Dat.owesAt Pipeline.owesWithin at *
  rw [show (dats m 0 c).owed t0_0.castSucc = owe c owed from rfl]
  iintro ⟨⟨⟨⟨%K, HR, HP, HT⟩, HC, HL⟩, Hs⟩, ⟨%Ws, -, HO⟩, ⟨%d0, Hx⟩, ⟨%d1, Hw⟩, ⟨%d2, Ho⟩⟩
  rw [h0, h1]
  iapply (hbody K)
  unfold bodyPre owesE
  isplitl [HR]; · iexact HR
  isplitl [HL]; · iexact HL
  isplitl [HO]; · iexists Ws; iexact HO
  isplitl [HP]; · iexact HP
  isplitl [HT]; · iexact HT
  isplitl [HC]; · iexact HC
  isplitl [Hx]; · iexact Hx
  isplitl [Hw]; · iexact Hw
  isplitl [Ho]; · iexists _; iexact Ho
  iexact Hs

/-! ## The launch's side conditions -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owe d owed) c ∗ prngReg c (ρ c) ∗ (∃ K, ghost (xIn m) (wIn m) K c))
      ⊢ |={Set.univ}=> iprop(start m c ∗ emp) := by
  iintro ⟨-, HL, HC, -, HG⟩
  ihave HC := (launch_creds (F := F) c) $$ HC
  imodintro
  unfold start
  isplitl
  · isplitl [HG]; · iexact HG
    isplitl [HC]; · iexact HC
    iexact HL
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scratch_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ← scratch_eq]
  unfold Φ₁
  rw [sems_eq]
  iintro ⟨Hr, Hu, Ho⟩
  isplitl [Hu]; · iexact Hu
  isplitl [Ho]; · iexact Ho
  iexact Hr

/-- The staging transfers may be waited for before and after the body. -/
theorem waits (c : Dev nD) : (levAts L lv : sProp 𝕄) ⊢ Pipeline.cellsWaits cfgs (dats m) () 0 c :=
  Pipeline.cellsWaits_intro cfgs (dats m) () 0 c fun w s t => by
    have h : ∀ l ∈ [owed, ([] : List Du)], ∀ d ∈ l, 0 < lvS (semOf d) := by decide
    have hz : lvS (.dma ((cfg0.win w).sem s)) = 0 := by fin_cases w <;> fin_cases s <;> decide
    rcases t with ⟨_ | _, ht⟩
    · exact mayWait c _ owed fun d hd => by rw [hz]; exact h owed (by simp) d hd
    · exact mayWait c _ [] fun d hd => absurd hd List.not_mem_nil

/-! ## The run -/

/-- Every weakly fair execution from any memory with zero counters ends, with each window's array at what the region's
    data say and every semaphore at zero. -/
theorem run_arrays : θ_run defs (onTc (τ := τ) (main (F := F))) ⟨m, fun _ => 0, ρ⟩ (fun r =>
    (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := fun c => owe c owed) (howed₀ := fun _ => rfl) (howedN := fun _ => rfl)
    (L := L) (lv := lv) (hL := L_of_ne) (hwaits := waits m)
    (G := G (xIn m) (wIn m)) (G' := fun c => iprop(∃ K, ghost (xIn m) (wIn m) K c)) (u₀ := u₀)
    (hu₀ := by
      unfold u₀
      iintro Hu
      ihave H := (ownU_pair _ _) $$ Hu
      icases H with ⟨HP, HX⟩
      imod (fund_proto (xIn m) (wIn m)) $$ HX with HG
      imodintro
      isplitl [HP] <;> iassumption)
    (hglob := glob (xIn m) (wIn m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result's array holds what the body left staged. -/
theorem arr_out (c : Dev nD) : (dats m 0 c).arrAt (2 : Fin 3) cfg0.N = outAt (xIn m) (wIn m) c := by
  refine (read_o _).symm.trans ?_
  rw [show cfg0.N = t0_0.val + 1 from N_0, (dats m 0 c).arrAt_succ (2 : Fin 3) t0_0, if_pos (flush0_2 t0_0)]
  exact View.read_write_univ _ _

/-- What the run leaves: each device's result array at `outAt`, its arguments as they were, every semaphore at zero. -/
theorem run_main : θ_run defs (onTc (τ := τ) (main (F := F))) ⟨m, fun _ => 0, ρ⟩ (fun r =>
    (∀ c : Dev nD, r.2.mem ((c.tc : Thread nD τ).loc main_v1) = outAt (xIn m) (wIn m) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c) 2).trans (arr_out m c),
      ((h.1 c) 0).trans ((dats m 0 c).arrAt_in 0 rfl _), ((h.1 c) 1).trans ((dats m 0 c).arrAt_in 1 rfl _)⟩, h.2⟩) (run_arrays m ρ)

end Cert.KernelIdeal.Run

end
-- ==== Proof.Value.Sums.lean ====
/-
  The mathematics of the value: a sum over 1024 positions is four sums over 256 positions each, the four sums may be
  added in the order the four devices add them, and the two ways of writing the activation agree.
-/
module

public import Idealize.ShloMosaic.PureOps.Ideal
public import Mathlib.Algebra.BigOperators.Fin
public import Mathlib.Logic.Equiv.Fin.Basic
public import Mathlib.Tactic.Abel

@[expose] public section

noncomputable section

namespace Cert.Value

open Idealize.ShloMosaic
open scoped BigOperators

/-- Position k of block d of the 1024 positions, which are four blocks of 256. -/
def pos (d : Fin 4) (k : Fin 256) : Fin 1024 := ⟨256 * d.val + k.val, by omega⟩

/-- A sum over the 1024 positions, block by block. -/
theorem sum_pos (f : Fin 1024 → EReal) : ∑ i, f i = ∑ d : Fin 4, ∑ k : Fin 256, f (pos d k) := by
  rw [← Equiv.sum_comp (finProdFinEquiv (m := 4) (n := 256)) f, Fintype.sum_prod_type]
  refine Finset.sum_congr rfl fun d _ => Finset.sum_congr rfl fun k _ => congrArg f (Fin.ext ?_)
  show k.val + 256 * d.val = 256 * d.val + k.val
  omega

/-- The activation, in the words of the constants: half of v times one more than the hyperbolic tangent of a multiple
    of v plus a multiple of its cube. -/
def act (v : EReal) : EReal :=
  Ideal.ofBits .f32 0x3F000000#32 * v
    * (Ideal.ofBits .f32 0x3F800000#32
      + Ideal.tanh (Ideal.ofBits .f32 0x3F4C422A#32 * (v + Ideal.ofBits .f32 0x3D372713#32 * v * v * v)))

/-- The cube may be formed before it is scaled. -/
theorem act_cube (v : EReal) :
    Ideal.ofBits .f32 0x3F000000#32 * v
      * (Ideal.ofBits .f32 0x3F800000#32
        + Ideal.tanh (Ideal.ofBits .f32 0x3F4C422A#32 * (v + Ideal.ofBits .f32 0x3D372713#32 * (v * v * v)))) = act v := by
  unfold act
  rw [mul_assoc (Ideal.ofBits .f32 0x3D372713#32 * v) v v, mul_assoc (Ideal.ofBits .f32 0x3D372713#32) v (v * v), mul_assoc v v v]

end Cert.Value

end
-- ==== Proof.Value.Kernel.lean ====
/-
  What the kernel's result is over the extended reals: at row r and column j of device c, the activation of the sum, over
  the four devices, of each device's product of row 256 c + r of its left argument with column j of its right one.
-/
module

public import proofs.«01_k».proof.Proof.KernelIdealRun.Contents
public import proofs.«01_k».proof.Proof.Value.Sums
public import Idealize.ShloMosaic.Lib.MatmulPlain
public import Idealize.ShloMosaic.Lib.ValueIdx
public import Idealize.ShloMosaic.Lib.ValueLayout
public import Idealize.ShloMosaic.Lib.Pipeline.Value

@[expose] public section

noncomputable section

namespace Cert.Value

open Cert.KernelIdeal Cert.KernelIdeal.Gen Cert.KernelIdeal.Run Cert.Pieces
open Idealize.ShloMosaic Idealize.ShloMosaic.ValueIdx
open scoped BigOperators

/-! ## Reading a part, a half, a quarter -/

/-- A part of a matrix, read at row r and column q, is the matrix at the row and the column the part begins at plus r and q. -/
theorem part_at {A : Type} {n0 n1 m0 m1 : ℕ} (V : (⟨2, ![n0, n1]⟩ : Shape).Idx → A) (o : Fin 2 → ℕ)
    (h : ∀ a : Fin 2, o a + (![m0, m1] : Fin 2 → ℕ) a ≤ (![n0, n1] : Fin 2 → ℕ) a) (r : Fin m0) (q : Fin m1) (r' : Fin n0) (q' : Fin n1)
    (hr : r'.val = o 0 + r.val) (hq : q'.val = o 1 + q.val) :
    part (n := 2) (size := ![n0, n1]) V o ![m0, m1] h (ix2 r q) = V (ix2 r' q') := by
  refine congrArg V (funext fun a => Fin.ext ?_)
  rw [Rect.emb_apply, Rect.off_unit, Rect.stride_unit, Nat.one_mul]
  match a with
  | ⟨0, _⟩ => exact hr.symm
  | ⟨1, _⟩ => exact hq.symm

/-- The left half of a matrix with 1024 columns, read at a column; the right half begins at column 512. -/
theorem halfL_at (V : Vec Ideal S256x1024 .f32) (r : Fin 256) (q : Fin 512) :
    halfL V (ix2 r q) = V (ix2 r (⟨q.val, by omega⟩ : Fin 1024)) :=
  part_at V _ inb_L r q r _ (by simp) (by simp)
theorem halfR_at (V : Vec Ideal S256x1024 .f32) (r : Fin 256) (q : Fin 512) :
    halfR V (ix2 r q) = V (ix2 r (⟨512 + q.val, by omega⟩ : Fin 1024)) :=
  part_at V _ inb_R r q r _ (by simp) (by simp)

/-- The k-th quarter begins at column 256 k. -/
theorem quarter_at (V : Vec Ideal S256x1024 .f32) (k : Fin 4) (r q : Fin 256) :
    quarter V k (ix2 r q) = V (ix2 r (pos k q)) :=
  part_at V _ (inb_quarter k) r q r _ (by simp) (by simp [pos])

/-- The k-th half of a slot begins at column 256 k. -/
theorem slotHalf_at (V : Vec Ideal S1x256x512 .bf16) (k : Fin 2) (r q : Fin 256) :
    slotHalf V k (ix3 (0 : Fin 1) r q) = V (ix3 (0 : Fin 1) r (⟨256 * k.val + q.val, by omega⟩ : Fin 512)) := by
  refine congrArg V (funext fun a => Fin.ext ?_)
  rw [Rect.emb_apply, Rect.off_unit, Rect.stride_unit, Nat.one_mul]
  match a with
  | ⟨0, _⟩ => rfl
  | ⟨1, _⟩ => exact Nat.zero_add _
  | ⟨2, _⟩ => rfl

/-! ## Products -/

/-- A product of two matrices onto zero, read at a row and a column. -/
theorem prod_at {M K N : ℕ} (lhs : FVec Ideal ⟨2, ![M, K]⟩ .f32) (rhs : FVec Ideal ⟨2, ![K, N]⟩ .f32) (r : Fin M) (j : Fin N) :
    matmul (DotDims.plain M K N) none lhs rhs (constant (F := Ideal) ⟨2, ![M, N]⟩ .f32 0x00000000#32) (ix2 r j)
      = ∑ k : Fin K, lhs (ix2 r k) * rhs (ix2 k j) := by
  refine (Ideal.matmul_plain_apply none lhs rhs _ r j).trans ?_
  rw [constant_apply, Ideal.ofBits_zero_f32, zero_add]

theorem pay9_at (a : Vec Ideal S256x256 .f32) (b : Vec Ideal S256x1024 .f32) (r : Fin 256) (j : Fin 1024) :
    k0_pay9 a b (ix2 r j) = ∑ k : Fin 256, a (ix2 r k) * b (ix2 k j) := by
  unfold k0_pay9
  simp only [shapeCast_self]
  exact prod_at (M := 256) (K := 256) (N := 1024) a b r j

theorem pay1_at (a : Vec Ideal S256x256 .f32) (b : Vec Ideal S256x512 .f32) (r : Fin 256) (j : Fin 512) :
    k0_pay1 a b (ix2 r j) = ∑ k : Fin 256, a (ix2 r k) * b (ix2 k j) := by
  unfold k0_pay1
  simp only [shapeCast_self]
  exact prod_at (M := 256) (K := 256) (N := 512) a b r j

/-- The row of device d's block of left rows that the product for device e multiplies, with column j of d's right argument. -/
def term (X : Dev nD → Vec Ideal S1024x256 .f32) (W : Dev nD → Vec Ideal S256x1024 .f32) (d e : Dev nD) (r : Fin 256) (j : Fin 1024) : EReal :=
  ∑ k : Fin 256, X d (ix2 (pos e r) k) * W d (ix2 k j)

section

variable (X : Dev nD → Vec Ideal S1024x256 .f32) (W : Dev nD → Vec Ideal S256x1024 .f32) (c : Dev nD) (r : Fin 256)

/-- A device's product for itself, and its products for its two partners. -/
theorem prodOwn_at (j : Fin 1024) : prodOwn X W c (ix2 r j) = term X W c c r j := by
  refine (pay9_at _ _ r j).trans (Finset.sum_congr rfl fun k _ => congrArg (· * _) ?_)
  exact part_at (X c) _ (k0_off10_inb c) r k (pos c r) k (by rw [k0_off10_eq]; rfl) (by rw [k0_off10_eq]; exact (Nat.zero_add _).symm)

theorem off4_at : k0_off4 c 0 = 256 * (yp c).val ∧ k0_off4 c 1 = 0 := by revert c; decide +kernel

theorem prodYp_at (j : Fin 1024) : prodYp X W c (ix2 r j) = term X W c (yp c) r j := by
  refine (pay9_at _ _ r j).trans (Finset.sum_congr rfl fun k _ => congrArg (· * _) ?_)
  exact part_at (X c) _ (k0_off4_inb c) r k (pos (yp c) r) k (by rw [(off4_at c).1]; rfl) (by rw [(off4_at c).2, Nat.zero_add])

theorem off7_at : k0_off7 c 0 = 256 * (xp c).val ∧ k0_off7 c 1 = 0 := by revert c; decide +kernel

theorem prodXp_at (j : Fin 1024) : prodXp X W c (ix2 r j) = term X W c (xp c) r j := by
  refine (pay9_at _ _ r j).trans (Finset.sum_congr rfl fun k _ => congrArg (· * _) ?_)
  exact part_at (X c) _ (k0_off7_inb c) r k (pos (xp c) r) k (by rw [(off7_at c).1]; rfl) (by rw [(off7_at c).2, Nat.zero_add])

/-- The diagonal device is the partner of the partner, whichever partner comes first. -/
theorem off1_at : k0_off1 c 0 = 256 * (xp (yp c)).val ∧ k0_off1 c 1 = 0 := by revert c; decide +kernel
theorem yp_xp : yp (xp c) = xp (yp c) := by revert c; decide

theorem xDiag_at (k : Fin 256) : xDiag X c (ix2 r k) = X c (ix2 (pos (xp (yp c)) r) k) :=
  part_at (X c) _ (k0_off1_inb c) r k (pos (xp (yp c)) r) k (by rw [(off1_at c).1]; rfl) (by rw [(off1_at c).2, Nat.zero_add])

/-- A device's products for the diagonal device: the columns from 512 on, and those below. -/
theorem prodDR_at (q : Fin 512) (j : Fin 1024) (hj : j.val = 512 + q.val) : prodDR X W c (ix2 r q) = term X W c (xp (yp c)) r j := by
  refine (pay1_at _ _ r q).trans (Finset.sum_congr rfl fun k _ => ?_)
  rw [xDiag_at]
  exact congrArg (_ * ·) (part_at (W c) _ inb_R k q k j (by simp) (by simpa using hj))

theorem prodDL_at (q : Fin 512) (j : Fin 1024) (hj : j.val = q.val) : prodDL X W c (ix2 r q) = term X W c (xp (yp c)) r j := by
  refine (pay1_at _ _ r q).trans (Finset.sum_congr rfl fun k _ => ?_)
  rw [xDiag_at]
  exact congrArg (_ * ·) (part_at (W c) _ inb_L k q k j (by simp) (by simpa using hj))

/-! ## What the transfers carry -/

/-- Putting a matrix in a slot, and adding a matrix to what a slot holds, read at a row and a column. -/
theorem pay2_at (v : Vec Ideal S256x512 .f32) (q : Fin 512) : k0_pay2 v (ix3 (0 : Fin 1) r q) = v (ix2 r q) :=
  shapeCast_ab_1ab_apply (a := 256) (b := 512) _ _ 0 r q

theorem pay12_at (b : Vec Ideal S1x256x512 .bf16) (v : Vec Ideal S256x512 .f32) (q : Fin 512) :
    k0_pay12 b v (ix3 (0 : Fin 1) r q) = b (ix3 (0 : Fin 1) r q) + v (ix2 r q) := by
  refine (shapeCast_ab_1ab_apply (a := 256) (b := 512) (k0_pay10 b v) shapeCasts_S256x512_S1x256x512 0 r q).trans ?_
  exact congrArg (· + v (ix2 r q)) (shapeCast_1ab_ab_apply (a := 256) (b := 512) b _ r q)

variable (k : Fin 2) (q : Fin 256) (j : Fin 1024)

theorem sentYp_at (hj : j.val = 256 * k.val + q.val) : slotHalf (sentYp X W c) k (ix3 (0 : Fin 1) r q) = term X W c (yp c) r j := by
  have e : (⟨256 * k.val + q.val, by omega⟩ : Fin 1024) = j := Fin.ext hj.symm
  exact (slotHalf_at _ k r q).trans ((pay2_at r _ _).trans ((halfL_at _ r _).trans ((prodYp_at X W c r _).trans (by rw [e]))))

theorem sentXp_at (hj : j.val = 512 + (256 * k.val + q.val)) : slotHalf (sentXp X W c) k (ix3 (0 : Fin 1) r q) = term X W c (xp c) r j := by
  have e : (⟨512 + (256 * k.val + q.val), by omega⟩ : Fin 1024) = j := Fin.ext hj.symm
  exact (slotHalf_at _ k r q).trans ((pay2_at r _ _).trans ((halfR_at _ r _).trans ((prodXp_at X W c r _).trans (by rw [e]))))

theorem sumXp_at (hj : j.val = 256 * k.val + q.val) :
    slotHalf (sumXp X W c) k (ix3 (0 : Fin 1) r q) = term X W (yp c) (xp c) r j + term X W c (xp c) r j := by
  have e : (⟨256 * k.val + q.val, by omega⟩ : Fin 1024) = j := Fin.ext hj.symm
  refine (slotHalf_at _ k r q).trans ((pay12_at r _ _ _).trans (congrArg₂ (· + ·) ?_ ?_))
  · refine (pay2_at r _ _).trans ((prodDL_at X W (yp c) r _ j hj).trans ?_)
    rw [yp_yp]
  · exact (halfL_at _ r _).trans ((prodXp_at X W c r _).trans (by rw [e]))

theorem sumYp_at (hj : j.val = 512 + (256 * k.val + q.val)) :
    slotHalf (sumYp X W c) k (ix3 (0 : Fin 1) r q) = term X W (xp c) (yp c) r j + term X W c (yp c) r j := by
  have e : (⟨512 + (256 * k.val + q.val), by omega⟩ : Fin 1024) = j := Fin.ext hj.symm
  refine (slotHalf_at _ k r q).trans ((pay12_at r _ _ _).trans (congrArg₂ (· + ·) ?_ ?_))
  · refine (pay2_at r _ _).trans ((prodDR_at X W (xp c) r _ j hj).trans ?_)
    rw [← yp_xp, xp_xp]
  · exact (halfR_at _ r _).trans ((prodYp_at X W c r _).trans (by rw [e]))

/-! ## The result -/

/-- The four devices, named from device c. -/
theorem sum_mesh (f : Dev nD → EReal) : ∑ d, f d = f c + f (yp c) + (f (xp (yp c)) + f (xp c)) := by
  have h : ∀ c : Dev nD, ∀ f : Dev nD → EReal, ∑ d, f d = f c + f (yp c) + (f (xp (yp c)) + f (xp c)) := by
    intro c f
    refine (Fin.sum_univ_four f).trans ?_
    match c with
    | ⟨0, _⟩ => show f 0 + f 1 + f 2 + f 3 = f 0 + f 1 + (f 2 + f 3); abel
    | ⟨1, _⟩ => show f 0 + f 1 + f 2 + f 3 = f 1 + f 0 + (f 3 + f 2); abel
    | ⟨2, _⟩ => show f 0 + f 1 + f 2 + f 3 = f 2 + f 3 + (f 0 + f 1); abel
    | ⟨3, _⟩ => show f 0 + f 1 + f 2 + f 3 = f 3 + f 2 + (f 1 + f 0); abel
  exact h c f

/-- The last steps of a quarter: a matrix and two slots, added and put through the activation. -/
theorem pay17_at (v : Vec Ideal S256x256 .f32) (b b' : Vec Ideal S1x256x256 .bf16) :
    k0_pay17 v b b' (ix2 r q) = act (v (ix2 r q) + b (ix3 (0 : Fin 1) r q) + b' (ix3 (0 : Fin 1) r q)) := by
  have e : shapeCast S256x256 b shapeCasts_S1x256x256_S256x256 (ix2 r q) = b (ix3 (0 : Fin 1) r q) :=
    shapeCast_1ab_ab_apply (a := 256) (b := 256) b _ r q
  have e' : shapeCast S256x256 b' shapeCasts_S1x256x256_S256x256 (ix2 r q) = b' (ix3 (0 : Fin 1) r q) :=
    shapeCast_1ab_ab_apply (a := 256) (b := 256) b' _ r q
  rw [← e, ← e']
  rfl

/-- A quarter among the first two, -/
theorem left_at (hj : j.val = 256 * k.val + q.val) (v : Vec Ideal S256x256 .f32) (hv : v (ix2 r q) = prodOwn X W c (ix2 r j)) :
    k0_pay17 v (slotHalf (sentYp X W (yp c)) k) (slotHalf (sumXp X W (xp c)) k) (ix2 r q) = act (∑ d, term X W d c r j) := by
  rw [pay17_at, hv, prodOwn_at, sentYp_at X W (yp c) r k q j hj, sumXp_at X W (xp c) r k q j hj, yp_yp, xp_xp, yp_xp, ← sum_mesh c fun d => term X W d c r j]

/-- and one among the last two. -/
theorem right_at (hj : j.val = 512 + (256 * k.val + q.val)) (v : Vec Ideal S256x256 .f32) (hv : v (ix2 r q) = prodOwn X W c (ix2 r j)) :
    k0_pay17 v (slotHalf (sentXp X W (xp c)) k) (slotHalf (sumYp X W (yp c)) k) (ix2 r q) = act (∑ d, term X W d c r j) := by
  rw [pay17_at, hv, prodOwn_at, sentXp_at X W (xp c) r k q j hj, sumYp_at X W (yp c) r k q j hj, yp_yp, xp_xp, sum_mesh c fun d => term X W d c r j]
  congr 1; abel

/-- Each quarter of the result. -/
theorem outPiece_at (k : Fin 4) : outPiece X W c k (ix2 r q) = act (∑ d, term X W d c r (pos k q)) := by
  match k with
  | ⟨0, _⟩ => exact left_at X W c r 0 q (pos 0 q) rfl _ (quarter_at _ 0 r q)
  | ⟨1, _⟩ => exact left_at X W c r 1 q (pos 1 q) rfl _ (quarter_at _ 1 r q)
  | ⟨2, _⟩ => exact right_at X W c r 0 q (pos 2 q) (by simp [pos]) _ (quarter_at _ 2 r q)
  | ⟨3, _⟩ => exact right_at X W c r 1 q (pos 3 q) (by simp [pos]; omega) _ (quarter_at _ 3 r q)

/-- Device c's result at row r and column j: the activation of the sum over the devices. -/
theorem outAt_at : outAt X W c (ix2 r j) = act (∑ d, term X W d c r j) := by
  have hk : j.val / 256 < 4 := by omega
  have e : j = pos ⟨j.val / 256, hk⟩ ⟨j.val % 256, by omega⟩ := Fin.ext (by show j.val = 256 * (j.val / 256) + j.val % 256; omega)
  generalize (⟨j.val / 256, hk⟩ : Fin 4) = k at e
  generalize (⟨j.val % 256, by omega⟩ : Fin 256) = q at e
  subst e
  have ei : (ix2 r (pos k q) : S256x1024.Idx) = (rOut k).emb (ix2 r q : (⟨2, ![256, 256]⟩ : Shape).Idx) := by
    funext a; apply Fin.ext
    unfold rOut
    rw [Rect.emb_apply, Rect.off_unit, Rect.stride_unit, Nat.one_mul]
    match a with
    | ⟨0, _⟩ => exact (Nat.zero_add _).symm
    | ⟨1, _⟩ => rfl
  rw [ei]
  unfold outAt
  exact (glue_emb rOut rOut_disj (outPiece X W c) k _).trans (outPiece_at X W c r q k)

end

end Cert.Value

end
-- ==== Proof.Value.Reference.lean ====
/-
  What the reference computes over the extended reals, and that device c's block of it is device c's result.
-/
module

public import proofs.«01_k».proof.Proof.Gen.ReferenceIdeal
public import proofs.«01_k».proof.Proof.Gen.ReferenceIdeal.Run
public import proofs.«01_k».proof.Proof.Value.Kernel
public import Idealize.ShloMosaic.Lib.Layout
public import Idealize.ShloMosaic.Lib.StackMember

@[expose] public section

noncomputable section

namespace Cert.Value

open Idealize.ShloMosaic Idealize.ShloMosaic.ValueIdx
open Cert.ReferenceIdeal Cert.ReferenceIdeal.Gen
open scoped BigOperators

/-- The reference's result as a function of its two arguments: their product, put through the activation. -/
def refOut (a b : FVec Ideal S1024x1024 .f32) : FVec Ideal S1024x1024 .f32 :=
  let y := Host.dotGeneral dot_S1024x1024_S1024x1024_S1024x1024_1_0_0_1_n_n none a b
  let const (w : BitVec 32) : FVec Ideal S1024x1024 .f32 := broadcastInDim S1024x1024 ![] bcast_S_S1024x1024 (constant S_ .f32 w)
  mulf (mulf (const 0x3F000000#32) y)
    (addf (const 0x3F800000#32) (Host.tanh (mulf (const 0x3F4C422A#32) (addf y (mulf (const 0x3D372713#32) (mulf (mulf y y) y))))))

/-- It, read at a row and a column. -/
theorem refOut_at (a b : FVec Ideal S1024x1024 .f32) (i j : Fin 1024) :
    refOut a b (ix2 i j) = act (∑ k : Fin 1024, a (ix2 i k) * b (ix2 k j)) := by
  have e : Host.dotGeneral dot_S1024x1024_S1024x1024_S1024x1024_1_0_0_1_n_n none a b (ix2 i j) = ∑ k : Fin 1024, a (ix2 i k) * b (ix2 k j) :=
    StackMember.dotGeneral_plain_apply (m := 1024) (k := 1024) (n := 1024) none a b i j
  rw [← e, ← act_cube]
  rfl

/-- When every device holds its block of columns of the reference's left argument and its block of rows of the right
    one, its result is its block of rows of the reference's. -/
theorem outAt_eq_block (a b : FVec Ideal S1024x1024 .f32) (X : Dev Cert.KernelIdeal.nD → Vec Ideal Cert.KernelIdeal.S1024x256 .f32)
    (W : Dev Cert.KernelIdeal.nD → Vec Ideal Cert.KernelIdeal.S256x1024 .f32)
    (hX : ∀ c, X c = Layout.block ⟨2, ![1024, 256]⟩ ⟨2, ![1024, 1024]⟩ 1 4 c a)
    (hW : ∀ c, W c = Layout.block ⟨2, ![256, 1024]⟩ ⟨2, ![1024, 1024]⟩ 0 4 c b) (c : Dev Cert.KernelIdeal.nD) :
    Cert.KernelIdeal.Run.outAt X W c = Layout.block ⟨2, ![256, 1024]⟩ ⟨2, ![1024, 1024]⟩ 0 4 c (refOut a b) := by
  have hrow (n : Fin 4) (r : Fin 256) (j : Fin 1024) (h : Layout.Tiles ⟨2, ![256, 1024]⟩ ⟨2, ![1024, 1024]⟩ 0 4) :
      h.idx n (ix2 r j) = ix2 (pos n r) j := by
    funext d; apply Fin.ext
    match d with
    | ⟨0, _⟩ => exact (Layout.idx_rows_val h n (ix2 r j)).1.trans (congrArg (· + r.val) (Nat.mul_comm _ _))
    | ⟨1, _⟩ => exact (Layout.idx_rows_val h n (ix2 r j)).2
  have hcol (n : Fin 4) (r : Fin 1024) (k : Fin 256) (h : Layout.Tiles ⟨2, ![1024, 256]⟩ ⟨2, ![1024, 1024]⟩ 1 4) :
      h.idx n (ix2 r k) = ix2 r (pos n k) := by
    funext d; apply Fin.ext
    match d with
    | ⟨0, _⟩ => exact (Layout.idx_cols_val h n (ix2 r k)).1
    | ⟨1, _⟩ => exact (Layout.idx_cols_val h n (ix2 r k)).2.trans (congrArg (· + k.val) (Nat.mul_comm _ _))
  funext i
  obtain ⟨r, j, rfl⟩ : ∃ (r : Fin 256) (j : Fin 1024), i = (ix2 r j : (⟨2, ![256, 1024]⟩ : Shape).Idx) := ⟨_, _, eq_ix2 i⟩
  refine (outAt_at X W c r j).trans (Eq.symm ?_)
  refine (congrArg (refOut a b) (hrow c r j _)).trans ?_
  refine (refOut_at a b _ _).trans (congrArg act ?_)
  rw [sum_pos]
  refine Finset.sum_congr rfl fun d _ => Finset.sum_congr rfl fun k _ => ?_
  rw [hX d, hW d]
  exact congrArg₂ (· * ·) (congrArg a (hcol d (pos c r) k _).symm) (congrArg b (hrow d k j _).symm)

end Cert.Value

end
-- ==== Proof.lean ====
/-
  The claims, from the runs: each program ends with its semaphores at zero and its arguments as they were, and over the
  extended reals every device's result is its block of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun.Launch
public import proofs.«01_k».proof.Proof.KernelIdealRun.Launch
public import proofs.«01_k».proof.Proof.Value.Reference

@[expose] public section

noncomputable section

namespace Cert.Proof

open Idealize.ShloMosaic Idealize.SL.Sem

/-- The kernel ends with every semaphore at zero and its arguments unchanged, -/
theorem quiescent_Kernel : Cert.quiescent_Kernel (hKernel := Cert.Kernel.Gen.facts) := fun m g _ =>
  (θ_run _ _ _).mono (fun _ h => ⟨fun c => (h.1 c).2, h.2⟩) (Cert.Kernel.Run.run_main (F := Bits) m g)

/-- so does the kernel read over the extended reals, -/
theorem quiescent_KernelIdeal : Cert.quiescent_KernelIdeal (hKernelIdeal := Cert.KernelIdeal.Gen.facts) := fun m g _ =>
  (θ_run _ _ _).mono (fun _ h => ⟨fun c => (h.1 c).2, h.2⟩) (Cert.KernelIdeal.Run.run_main (F := Ideal) m g)

/-- and the reference, which has no semaphore. -/
theorem quiescent_ReferenceIdeal : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run (F := Ideal) m g)

/-- Over the extended reals, each device's result is its block of rows of the reference's result. -/
theorem algebraic : Cert.algebraic_KernelIdeal_ReferenceIdeal (hKernelIdeal := Cert.KernelIdeal.Gen.facts)
    (hReferenceIdeal := Cert.ReferenceIdeal.Gen.facts) := fun m g m' g' _ hagree =>
  ⟨Cert.Value.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).1.trans (Cert.Value.outAt_eq_block _ _ _ _ (fun d => (hagree d).1) (fun d => (hagree d).2) c), (h.1 c).2⟩)
      (Cert.KernelIdeal.Run.run_main (F := Ideal) m g),
    (θ_run _ _ _).mono (fun _ h => h 0) (Cert.ReferenceIdeal.Value.run (F := Ideal) m' g')⟩

/-- All that is claimed. -/
theorem claim : Cert.Claim := ⟨Cert.Kernel.Gen.facts, Cert.KernelIdeal.Gen.facts, Cert.ReferenceIdeal.Gen.facts,
  quiescent_Kernel, quiescent_KernelIdeal, quiescent_ReferenceIdeal, trivial, algebraic⟩

end Cert.Proof

end
